-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_KernelIdeal [hPre_valid_KernelIdeal : Cert.Pre_valid_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_valid_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_ReferenceIdeal [hPre_valid_ReferenceIdeal : Cert.Pre_valid_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid_KernelIdeal [hKernelIdeal : Cert.KernelIdeal.Facts] [hPre_valid_KernelIdeal : Cert.Pre_valid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid_ReferenceIdeal [hReferenceIdeal : Cert.ReferenceIdeal.Facts] [hPre_valid_ReferenceIdeal : Cert.Pre_valid_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid_KernelIdeal [hKernelIdeal : Cert.KernelIdeal.Facts] [hReferenceIdeal : Cert.ReferenceIdeal.Facts] [hPre_valid_KernelIdeal : Cert.Pre_valid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![16384, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid_KernelIdeal : Cert.Pre_valid_KernelIdeal.Facts) (hPre_valid_ReferenceIdeal : Cert.Pre_valid_ReferenceIdeal.Facts),
    quiescent_Kernel (hKernel := hKernel)
    ∧ quiescent_KernelIdeal (hKernelIdeal := hKernelIdeal)
    ∧ quiescent_KernelIdeal_pre_valid_KernelIdeal (hKernelIdeal := hKernelIdeal) (hPre_valid_KernelIdeal := hPre_valid_KernelIdeal)
    ∧ quiescent_ReferenceIdeal (hReferenceIdeal := hReferenceIdeal)
    ∧ quiescent_ReferenceIdeal_pre_valid_ReferenceIdeal (hReferenceIdeal := hReferenceIdeal) (hPre_valid_ReferenceIdeal := hPre_valid_ReferenceIdeal)
    ∧ preserves_Kernel_KernelIdeal
    ∧ algebraic_KernelIdeal_ReferenceIdeal_pre_valid_KernelIdeal (hKernelIdeal := hKernelIdeal) (hReferenceIdeal := hReferenceIdeal) (hPre_valid_KernelIdeal := hPre_valid_KernelIdeal)
-- ==== Pre_valid_KernelIdeal.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S2048x512 .bf16) (main_arg1 : FVec F S512x64 .bf16) (main_arg2 : IVec S2048x2 32) (main_arg3 : FVec F S8x512x1024 .bf16) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 64#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x512 .bf16 := Host.absf main_arg0
  let main_cst : FVec F S_ .bf16 := constant S_ .bf16 0x7F80#16
  let main_v7 : FVec F S2048x512 .bf16 := broadcastInDim S2048x512 ![] bcast_S_S2048x512 main_cst
  let main_v8 : IVec S2048x512 1 := cmpf .olt main_v6 main_v7
  let main_c_2 : IVec S_ 1 := constantI S_ 1 1#1
  let main_v9 : IVec S_ 1 := (fun x v => Host.reduce IntOp.andi x v reducesTo_S2048x512_S_d0_1 h_S_) main_v8 main_c_2
  let main_v10 : IVec S_ 1 := andi main_v5 main_v9
  let main_v11 : FVec F S512x64 .bf16 := Host.absf main_arg1
  let main_cst_3 : FVec F S_ .bf16 := constant S_ .bf16 0x7F80#16
  let main_v12 : FVec F S512x64 .bf16 := broadcastInDim S512x64 ![] bcast_S_S512x64 main_cst_3
  let main_v13 : IVec S512x64 1 := cmpf .olt main_v11 main_v12
  let main_c_4 : IVec S_ 1 := constantI S_ 1 1#1
  let main_v14 : IVec S_ 1 := (fun x v => Host.reduce IntOp.andi x v reducesTo_S512x64_S_d0_1 h_S_) main_v13 main_c_4
  let main_v15 : IVec S_ 1 := andi main_v10 main_v14
  main_v15
-- ==== Pre_valid_ReferenceIdeal.lean ====
abbrev S16384x512 : Shape := ⟨2, ![16384, 512]⟩
abbrev S512x64 : Shape := ⟨2, ![512, 64]⟩
abbrev S16384x2 : Shape := ⟨2, ![16384, 2]⟩
abbrev S64x512x1024 : Shape := ⟨3, ![64, 512, 1024]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S16384x512 .bf16) (main_arg1 : FVec F S512x64 .bf16) (main_arg2 : IVec S16384x2 32) (main_arg3 : FVec F S64x512x1024 .bf16) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg2 main_v0
  let main_c_0 : IVec S_ 32 := constantI S_ 32 64#32
  let main_v2 : IVec S16384x2 32 := broadcastInDim S16384x2 ![] bcast_S_S16384x2 main_c_0
  let main_v3 : IVec S16384x2 1 := cmpi .slt main_arg2 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  let main_v6 : FVec F S16384x512 .bf16 := Host.absf main_arg0
  let main_cst : FVec F S_ .bf16 := constant S_ .bf16 0x7F80#16
  let main_v7 : FVec F S16384x512 .bf16 := broadcastInDim S16384x512 ![] bcast_S_S16384x512 main_cst
  let main_v8 : IVec S16384x512 1 := cmpf .olt main_v6 main_v7
  let main_c_2 : IVec S_ 1 := constantI S_ 1 1#1
  let main_v9 : IVec S_ 1 := (fun x v => Host.reduce IntOp.andi x v reducesTo_S16384x512_S_d0_1 h_S_) main_v8 main_c_2
  let main_v10 : IVec S_ 1 := andi main_v5 main_v9
  let main_v11 : FVec F S512x64 .bf16 := Host.absf main_arg1
  let main_cst_3 : FVec F S_ .bf16 := constant S_ .bf16 0x7F80#16
  let main_v12 : FVec F S512x64 .bf16 := broadcastInDim S512x64 ![] bcast_S_S512x64 main_cst_3
  let main_v13 : IVec S512x64 1 := cmpf .olt main_v11 main_v12
  let main_c_4 : IVec S_ 1 := constantI S_ 1 1#1
  let main_v14 : IVec S_ 1 := (fun x v => Host.reduce IntOp.andi x v reducesTo_S512x64_S_d0_1 h_S_) main_v13 main_c_4
  let main_v15 : IVec S_ 1 := andi main_v10 main_v14
  main_v15
-- ==== Kernel.lean ====
abbrev S2048x512 : Shape := ⟨2, ![2048, 512]⟩
abbrev S512x64 : Shape := ⟨2, ![512, 64]⟩
abbrev S2048x2 : Shape := ⟨2, ![2048, 2]⟩
abbrev S8x512x1024 : Shape := ⟨3, ![8, 512, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S64 : Shape := ⟨1, ![64]⟩
abbrev S1x64 : Shape := ⟨2, ![1, 64]⟩
abbrev S2048x1024 : Shape := ⟨2, ![2048, 1024]⟩
abbrev S2x4x512x1024 : Shape := ⟨4, ![2, 4, 512, 1024]⟩
abbrev S8 : Shape := ⟨1, ![8]⟩
abbrev S1 : Shape := ⟨1, ![1]⟩
abbrev S1x4x512x1024 : Shape := ⟨4, ![1, 4, 512, 1024]⟩
abbrev S4x512x1024 : Shape := ⟨3, ![4, 512, 1024]⟩
abbrev S1x512x1024 : Shape := ⟨3, ![1, 512, 1024]⟩
abbrev S512x1024 : Shape := ⟨2, ![512, 1024]⟩
abbrev S1x1x512x1024 : Shape := ⟨4, ![1, 1, 512, 1024]⟩

abbrev nBuf : Space → Nat
  | .hbm => 42
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x2, .i32⟩
  | .hbm, ⟨3, _⟩ => ⟨S8x512x1024, .bf16⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S64, .i32⟩
  | .hbm, ⟨9, _⟩ => ⟨S1x64, .i32⟩
  | .hbm, ⟨10, _⟩ => ⟨S2048x1, .i32⟩
  | .hbm, ⟨11, _⟩ => ⟨S2048x64, .i32⟩
  | .hbm, ⟨12, _⟩ => ⟨S2048x64, .i32⟩
  | .hbm, ⟨13, _⟩ => ⟨S2048x64, .i1⟩
  | .hbm, ⟨14, _⟩ => ⟨S_, .f32⟩
  | .hbm, ⟨15, _⟩ => ⟨S_, .f32⟩
  | .hbm, ⟨16, _⟩ => ⟨S2048x64, .f32⟩
  | .hbm, ⟨17, _⟩ => ⟨S2048x64, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x1, .i32⟩
  | .hbm, ⟨22, _⟩ => ⟨S2048x64, .i32⟩
  | .hbm, ⟨23, _⟩ => ⟨S2048x64, .i32⟩
  | .hbm, ⟨24, _⟩ => ⟨S2048x64, .i1⟩
  | .hbm, ⟨25, _⟩ => ⟨S_, .f32⟩
  | .hbm, ⟨26, _⟩ => ⟨S_, .f32⟩
  | .hbm, ⟨27, _⟩ => ⟨S2048x64, .f32⟩
  | .hbm, ⟨28, _⟩ => ⟨S2048x64, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S2048x2, .f32⟩
  | .hbm, ⟨33, _⟩ => ⟨S2048x2, .f32⟩
  | .hbm, ⟨34, _⟩ => ⟨S2048x2, .f32⟩
  | .hbm, ⟨35, _⟩ => ⟨S2048x2, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2, .f32⟩
  | .hbm, ⟨40, _⟩ => ⟨S2048x2, .f32⟩
  | .hbm, ⟨41, _⟩ => ⟨S2048x1024, .f32⟩
  | .local _ .vmem, ⟨0, _⟩ => ⟨S2048x512, .bf16⟩
  | .local _ .vmem, ⟨1, _⟩ => ⟨S2048x2, .f32⟩
  | .local _ .vmem, ⟨2, _⟩ => ⟨S2048x2, .i32⟩
  | .local _ .vmem, ⟨3, _⟩ => ⟨S8x512x1024, .bf16⟩
  | .local _ .vmem, ⟨4, _⟩ => ⟨S2048x1024, .f32⟩
  | .local _ .vmem, ⟨5, _⟩ => ⟨S2x4x512x1024, .bf16⟩
  | .local _ .vmem, ⟨6, _⟩ => ⟨S2x4x512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 3 37 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_10 : BitVec 32 := 1#32
  let v18 : BitVec 32 := Scalar.muli v16 c1_i32_10
  let v19 : BitVec 32 := Scalar.addi c0_i32 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_12 : BitVec 32 := 1#32
  let v20 : BitVec 32 := Scalar.muli v10 c1_i32_12
  let v21 : BitVec 32 := Scalar.addi c0_i32_13 v20
  v21.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_18 : BitVec 32 := 1#32
  let v24 : BitVec 32 := Scalar.muli v10 c1_i32_18
  let v25 : BitVec 32 := Scalar.addi c0_i32_19 v24
  v25.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_29 : BitVec 32 := 1#32
  let v33 : BitVec 32 := Scalar.muli v16 c1_i32_29
  let v34 : BitVec 32 := Scalar.addi c0_i32_30 v33
  v34.toNat
@[reducible] def k0_t1_loop : Scf.Loop 32 :=
  let c0_i32_37 : BitVec 32 := 0#32
  let c4_i32_38 : BitVec 32 := 4#32
  let v42 : BitVec 32 := Scalar.addi c0_i32_37 c4_i32_38
  let c1_i32_39 : BitVec 32 := 1#32
  ⟨c0_i32_37, v42, c1_i32_39⟩
def k0_off1 (k0_t1 : Fin k0_t1_loop.trips) : Fin 3 → Nat :=
  let c0_i32_37 : BitVec 32 := 0#32
  let c1_i32_39 : BitVec 32 := 1#32
  let arg13 : BitVec 32 := Scf.iv c0_i32_37 c1_i32_39 k0_t1
  let v97 : Index := Scalar.indexCast arg13
  let c0_111 : Index := 0#32
  let c0_112 : Index := 0#32
  ![v97.toNat, 0, 0]
@[reducible] def k0_t2_loop : Scf.Loop 32 :=
  let c0_i32_41 : BitVec 32 := 0#32
  let c4_i32_42 : BitVec 32 := 4#32
  let v43 : BitVec 32 := Scalar.addi c0_i32_41 c4_i32_42
  let c1_i32_43 : BitVec 32 := 1#32
  ⟨c0_i32_41, v43, c1_i32_43⟩
def k0_off2 (k0_t2 : Fin k0_t2_loop.trips) : Fin 3 → Nat :=
  let c4_i32_111 : BitVec 32 := 4#32
  let c0_i32_41 : BitVec 32 := 0#32
  let c1_i32_43 : BitVec 32 := 1#32
  let arg13 : BitVec 32 := Scf.iv c0_i32_41 c1_i32_43 k0_t2
  let v97 : BitVec 32 := Scalar.addi c4_i32_111 arg13
  let v98 : Index := Scalar.indexCast v97
  let c0_112 : Index := 0#32
  let c0_113 : Index := 0#32
  ![v98.toNat, 0, 0]
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_46 : BitVec 32 := 1#32
  let v44 : BitVec 32 := Scalar.muli v16 c1_i32_46
  let v45 : BitVec 32 := Scalar.addi c0_i32_47 v44
  v45.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_49 : BitVec 32 := 1#32
  let v46 : BitVec 32 := Scalar.muli v10 c1_i32_49
  let v47 : BitVec 32 := Scalar.addi c0_i32_50 v46
  v47.toNat
@[reducible] def k0_t3_loop : Scf.Loop 32 :=
  let c1_i32_93 : BitVec 32 := 1#32
  let c7_i32 : BitVec 32 := 7#32
  let v72 : BitVec 32 := Scalar.addi c1_i32_93 c7_i32
  let c1_i32_94 : BitVec 32 := 1#32
  ⟨c1_i32_93, v72, c1_i32_94⟩
def k0_cond1 (k0_t3 : Fin k0_t3_loop.trips) : BitVec 1 :=
  let c1_i32_93 : BitVec 32 := 1#32
  let c1_i32_94 : BitVec 32 := 1#32
  let arg13 : BitVec 32 := Scf.iv c1_i32_93 c1_i32_94 k0_t3
  let c7_i32_106 : BitVec 32 := 7#32
  let v87 : BitVec 1 := Scalar.cmpi .slt arg13 c7_i32_106
  let v88 : BitVec 32 := Scalar.extui v87
  let c0_i32_107 : BitVec 32 := 0#32
  let v89 : BitVec 1 := Scalar.cmpi .ne v88 c0_i32_107
  v89

def k0_off3 (k0_t3 : Fin k0_t3_loop.trips) : Fin 1 → Nat :=
  let c1_i32_93 : BitVec 32 := 1#32
  let c1_i32_94 : BitVec 32 := 1#32
  let arg13 : BitVec 32 := Scf.iv c1_i32_93 c1_i32_94 k0_t3
  ![arg13.toNat]
def k0_off4 (k0_t3 : Fin k0_t3_loop.trips) : Fin 4 → Nat :=
  let c1_i32_104 : BitVec 32 := 1#32
  let c1_i32_93 : BitVec 32 := 1#32
  let c1_i32_94 : BitVec 32 := 1#32
  let arg13 : BitVec 32 := Scf.iv c1_i32_93 c1_i32_94 k0_t3
  let c2_i32_96 : BitVec 32 := 2#32
  let v73 : BitVec 32 := Scalar.remsi arg13 c2_i32_96
  let v85 : BitVec 32 := Scalar.subi c1_i32_104 v73
  let c0_i32_123 : BitVec 32 := 0#32
  let c0_i32_124 : BitVec 32 := 0#32
  let c0_i32_125 : BitVec 32 := 0#32
  ![v85.toNat, 0, 0, 0]
def k0_off5 (k0_t3 : Fin k0_t3_loop.trips) : Fin 4 → Nat :=
  let c1_i32_93 : BitVec 32 := 1#32
  let c1_i32_94 : BitVec 32 := 1#32
  let arg13 : BitVec 32 := Scf.iv c1_i32_93 c1_i32_94 k0_t3
  let c2_i32_96 : BitVec 32 := 2#32
  let v73 : BitVec 32 := Scalar.remsi arg13 c2_i32_96
  let c0_i32_126 : BitVec 32 := 0#32
  let c0_i32_127 : BitVec 32 := 0#32
  let c0_i32_128 : BitVec 32 := 0#32
  ![v73.toNat, 0, 0, 0]
def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_121 : BitVec 32 := 1#32
  let v98 : BitVec 32 := Scalar.muli v10 c1_i32_121
  let v99 : BitVec 32 := Scalar.addi c0_i32_122 v98
  v99.toNat
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_131 : BitVec 32 := 1#32
  let v108 : BitVec 32 := Scalar.muli v16 c1_i32_131
  let v109 : BitVec 32 := Scalar.addi c0_i32_132 v108
  v109.toNat
@[reducible] def k0_t4_loop : Scf.Loop 32 :=
  let c0_i32_108 : BitVec 32 := 0#32
  let c4_i32_109 : BitVec 32 := 4#32
  let v90 : BitVec 32 := Scalar.addi c0_i32_108 c4_i32_109
  let c1_i32_110 : BitVec 32 := 1#32
  ⟨c0_i32_108, v90, c1_i32_110⟩
def k0_off6 (k0_t3 : Fin k0_t3_loop.trips) (k0_t4 : Fin k0_t4_loop.trips) : Fin 4 → Nat :=
  let c1_i32_93 : BitVec 32 := 1#32
  let c1_i32_94 : BitVec 32 := 1#32
  let arg13 : BitVec 32 := Scf.iv c1_i32_93 c1_i32_94 k0_t3
  let c2_i32_96 : BitVec 32 := 2#32
  let v73 : BitVec 32 := Scalar.remsi arg13 c2_i32_96
  let v122 : Index := Scalar.indexCast v73
  let c0_i32_108 : BitVec 32 := 0#32
  let c1_i32_110 : BitVec 32 := 1#32
  let arg14 : BitVec 32 := Scf.iv c0_i32_108 c1_i32_110 k0_t4
  let v123 : Index := Scalar.indexCast arg14
  let c0_134 : Index := 0#32
  let c0_135 : Index := 0#32
  ![v122.toNat, v123.toNat, 0, 0]
@[reducible] def k0_t5_loop : Scf.Loop 32 :=
  let c0_i32_112 : BitVec 32 := 0#32
  let c4_i32_113 : BitVec 32 := 4#32
  let v91 : BitVec 32 := Scalar.addi c0_i32_112 c4_i32_113
  let c1_i32_114 : BitVec 32 := 1#32
  ⟨c0_i32_112, v91, c1_i32_114⟩
def k0_off7 (k0_t3 : Fin k0_t3_loop.trips) (k0_t5 : Fin k0_t5_loop.trips) : Fin 4 → Nat :=
  let c1_i32_93 : BitVec 32 := 1#32
  let c1_i32_94 : BitVec 32 := 1#32
  let arg13 : BitVec 32 := Scf.iv c1_i32_93 c1_i32_94 k0_t3
  let c2_i32_96 : BitVec 32 := 2#32
  let v73 : BitVec 32 := Scalar.remsi arg13 c2_i32_96
  let v122 : Index := Scalar.indexCast v73
  let c0_i32_112 : BitVec 32 := 0#32
  let c1_i32_114 : BitVec 32 := 1#32
  let arg14 : BitVec 32 := Scf.iv c0_i32_112 c1_i32_114 k0_t5
  let v123 : Index := Scalar.indexCast arg14
  let c0_134 : Index := 0#32
  let c0_135 : Index := 0#32
  ![v122.toNat, v123.toNat, 0, 0]
def k0_cond2 (k0_t3 : Fin k0_t3_loop.trips) : BitVec 1 :=
  let c1_i32_93 : BitVec 32 := 1#32
  let c1_i32_94 : BitVec 32 := 1#32
  let arg13 : BitVec 32 := Scf.iv c1_i32_93 c1_i32_94 k0_t3
  let c7_i32_116 : BitVec 32 := 7#32
  let v92 : BitVec 1 := Scalar.cmpi .slt arg13 c7_i32_116
  let v93 : BitVec 32 := Scalar.extui v92
  let c0_i32_117 : BitVec 32 := 0#32
  let v94 : BitVec 1 := Scalar.cmpi .ne v93 c0_i32_117
  v94

def k0_off8 (k0_t3 : Fin k0_t3_loop.trips) : Fin 1 → Nat :=
  let c1_i32_93 : BitVec 32 := 1#32
  let c1_i32_94 : BitVec 32 := 1#32
  let arg13 : BitVec 32 := Scf.iv c1_i32_93 c1_i32_94 k0_t3
  ![arg13.toNat]
def k0_off9 (k0_t3 : Fin k0_t3_loop.trips) : Fin 4 → Nat :=
  let c1_i32_93 : BitVec 32 := 1#32
  let c1_i32_94 : BitVec 32 := 1#32
  let arg13 : BitVec 32 := Scf.iv c1_i32_93 c1_i32_94 k0_t3
  let c2_i32_96 : BitVec 32 := 2#32
  let v73 : BitVec 32 := Scalar.remsi arg13 c2_i32_96
  let c0_i32_120 : BitVec 32 := 0#32
  let c0_i32_121 : BitVec 32 := 0#32
  let c0_i32_122 : BitVec 32 := 0#32
  ![v73.toNat, 0, 0, 0]
def k0_off10 (k0_t3 : Fin k0_t3_loop.trips) : Fin 4 → Nat :=
  let c1_i32_104 : BitVec 32 := 1#32
  let c1_i32_93 : BitVec 32 := 1#32
  let c1_i32_94 : BitVec 32 := 1#32
  let arg13 : BitVec 32 := Scf.iv c1_i32_93 c1_i32_94 k0_t3
  let c2_i32_96 : BitVec 32 := 2#32
  let v73 : BitVec 32 := Scalar.remsi arg13 c2_i32_96
  let v85 : BitVec 32 := Scalar.subi c1_i32_104 v73
  let c0_i32_123 : BitVec 32 := 0#32
  let c0_i32_124 : BitVec 32 := 0#32
  let c0_i32_125 : BitVec 32 := 0#32
  ![v85.toNat, 0, 0, 0]
def k0_cond3 (k0_t3 : Fin k0_t3_loop.trips) : BitVec 1 :=
  let c1_i32_93 : BitVec 32 := 1#32
  let c1_i32_94 : BitVec 32 := 1#32
  let arg13 : BitVec 32 := Scf.iv c1_i32_93 c1_i32_94 k0_t3
  let c5_i32 : BitVec 32 := 5#32
  let v95 : BitVec 1 := Scalar.cmpi .sle arg13 c5_i32
  let v96 : BitVec 32 := Scalar.extui v95
  let c0_i32_118 : BitVec 32 := 0#32
  let v97 : BitVec 1 := Scalar.cmpi .ne v96 c0_i32_118
  v97

def k0_dev9 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v11 : BitVec 32 := Scalar.subi v5 c1_i32_4
  let c8_i32_5 : BitVec 32 := 8#32
  let v12 : BitVec 32 := Scalar.addi v11 c8_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_120 : BitVec 32 := 1#32
  let v98 : BitVec 32 := Scalar.muli v16 c1_i32_120
  let v99 : BitVec 32 := Scalar.addi c0_i32_121 v98
  v99.toNat
def k0_dev10 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_123 : BitVec 32 := 1#32
  let v100 : BitVec 32 := Scalar.muli v10 c1_i32_123
  let v101 : BitVec 32 := Scalar.addi c0_i32_124 v100
  v101.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x512 : Shape := ⟨2, ![16384, 512]⟩
abbrev S512x64 : Shape := ⟨2, ![512, 64]⟩
abbrev S16384x2 : Shape := ⟨2, ![16384, 2]⟩
abbrev S64x512x1024 : Shape := ⟨3, ![64, 512, 1024]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x512x1024 : Shape := ⟨3, ![16384, 512, 1024]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x64, .bf16⟩
  | .hbm, ⟨2, _⟩ => ⟨S16384x2, .i32⟩
  | .hbm, ⟨3, _⟩ => ⟨S64x512x1024, .bf16⟩
  | .hbm, ⟨4, _⟩ => ⟨S16384x512, .f32⟩
  | .hbm, ⟨5, _⟩ => ⟨S512x64, .f32⟩
  | .hbm, ⟨6, _⟩ => ⟨S64x512x1024, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x1, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S16384x1, .i32⟩
  | .hbm, ⟨24, _⟩ => ⟨S16384x2, .i32⟩
  | .hbm, ⟨25, _⟩ => ⟨S16384, .f32⟩
  | .hbm, ⟨26, _⟩ => ⟨S16384x1, .i32⟩
  | .hbm, ⟨27, _⟩ => ⟨S16384x512x1024, .f32⟩
  | .hbm, ⟨28, _⟩ => ⟨S16384x1024, .f32⟩
  | .hbm, ⟨29, _⟩ => ⟨S16384x1, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x1, .i32⟩
  | .hbm, ⟨34, _⟩ => ⟨S16384x2, .i32⟩
  | .hbm, ⟨35, _⟩ => ⟨S16384, .f32⟩
  | .hbm, ⟨36, _⟩ => ⟨S16384x1, .i32⟩
  | .hbm, ⟨37, _⟩ => ⟨S16384x512x1024, .f32⟩
  | .hbm, ⟨38, _⟩ => ⟨S16384x1024, .f32⟩
  | .hbm, ⟨39, _⟩ => ⟨S16384, .f32⟩
  | .hbm, ⟨40, _⟩ => ⟨S16384, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]
-- ==== Proof.Ring.lean ====
/-
# The ring of the expert exchange

Device arithmetic, the memrefs, the semaphores and the cells the kernel's protocol is stated over. A direction is a
`Bool`: `true` is the clockwise stream (sent to the right neighbour), `false` the counter-clockwise one.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Duty names of the rounds library: the barrier has two duties a round, every other cell one. -/
abbrev UB : Type := URounds (GSem nD τ sig) Bool
abbrev UU : Type := UR sig nD τ × UB

abbrev MM (F : FTy → Type) [FloatOps F] : Type := MT nD τ sig ℕ (Elt F) ℕ UU ℕ
local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The ring -/

/-- The ring runs 0 1 2 3 7 6 5 4: position `k` is device `k` below 4 and device `11 - k` from 4 on (an involution). -/
def swap (k : ℕ) : ℕ := if k < 4 then k else 11 - k

set_option backward.proofsInPublic true in
/-- The device the stream of direction `b` is sent to. -/
def nbr (b : Bool) (c : Dev nD) : Dev nD :=
  ⟨swap ((swap c.val + if b then 1 else 7) % 8), by
    have h : (swap c.val + if b then 1 else 7) % 8 < 8 := Nat.mod_lt _ (by decide)
    revert h; generalize (swap c.val + if b then 1 else 7) % 8 = k; intro h
    show swap k < 8
    unfold swap; split <;> omega⟩

theorem nbr_nbr (b : Bool) (c : Dev nD) : nbr b (nbr (!b) c) = c := by revert b c; decide
theorem nbr_nbr' (b : Bool) (c : Dev nD) : nbr (!b) (nbr b c) = c := by revert b c; decide

/-- The neighbour map as a permutation of the devices. -/
def turn (b : Bool) : Dev nD ≃ Dev nD := ⟨nbr b, nbr (!b), nbr_nbr' b, nbr_nbr b⟩

/-- The device whose experts the stream of direction `b` holds at `c` after `h` hops. -/
def src (b : Bool) : ℕ → Dev nD → Dev nD
  | 0, c => c
  | h + 1, c => src b h (nbr (!b) c)

theorem src_succ_nbr (b : Bool) (h : ℕ) (c : Dev nD) : src b (h + 1) (nbr b c) = src b h c := by
  rw [src, nbr_nbr']

theorem dev1_eq (c : Dev nD) : (⟨k0_dev1 c, k0_dev1_lt c⟩ : Dev nD) = nbr false c := Fin.ext (k0_dev1_eq c)
theorem dev2_eq (c : Dev nD) : (⟨k0_dev2 c, k0_dev2_lt c⟩ : Dev nD) = nbr true c := Fin.ext (k0_dev2_eq c)
theorem dev3_eq (c : Dev nD) : (⟨k0_dev3 c, k0_dev3_lt c⟩ : Dev nD) = nbr true c := Fin.ext (k0_dev3_eq c)
theorem dev4_eq (c : Dev nD) : (⟨k0_dev4 c, k0_dev4_lt c⟩ : Dev nD) = nbr false c := Fin.ext (k0_dev4_eq c)
theorem dev5_eq (c : Dev nD) : (⟨k0_dev5 c, k0_dev5_lt c⟩ : Dev nD) = nbr false c := Fin.ext (k0_dev5_eq c)
theorem dev6_eq (c : Dev nD) : (⟨k0_dev6 c, k0_dev6_lt c⟩ : Dev nD) = nbr true c := Fin.ext (k0_dev6_eq c)
theorem dev7_eq (c : Dev nD) (k h) : (⟨k0_dev7 c, k0_dev7_lt c k h⟩ : Dev nD) = nbr true c := Fin.ext (k0_dev7_eq c)
theorem dev8_eq (c : Dev nD) (k h) : (⟨k0_dev8 c, k0_dev8_lt c k h⟩ : Dev nD) = nbr false c := Fin.ext (k0_dev8_eq c)
theorem dev9_eq (c : Dev nD) (k h) : (⟨k0_dev9 c, k0_dev9_lt c k h⟩ : Dev nD) = nbr false c := Fin.ext (k0_dev9_eq c)
theorem dev10_eq (c : Dev nD) (k h) : (⟨k0_dev10 c, k0_dev10_lt c k h⟩ : Dev nD) = nbr true c := Fin.ext (k0_dev10_eq c)

/-! ## The memrefs -/

/-- A direction's two-slot buffer. -/
abbrev ringM (b : Bool) : Memref sig .tc .vmem S2x4x512x1024 .bf16 :=
  match b with
  | true => Memref.whole cc0_scratch0
  | false => Memref.whole cc0_scratch1

theorem slot_inb (s : Fin 2) : ∀ a, (![s.val, 0, 0, 0] : Fin 4 → ℕ) a + S1x4x512x1024.size a ≤ S2x4x512x1024.size a := by
  revert s; decide

/-- Slot `s` of a direction's buffer: four experts' weights. -/
def slotM (b : Bool) (s : Fin 2) : Memref sig .tc .vmem S4x512x1024 .bf16 :=
  ((ringM b).slice (Rect.unit (s := S2x4x512x1024) ![s.val, 0, 0, 0] S1x4x512x1024.size (slot_inb s)) (fun _ => rfl)).squeeze
    S4x512x1024 squeezes_S1x4x512x1024_S4x512x1024

theorem slotM_eq (b : Bool) (s : Fin 2) {off : Fin 4 → ℕ} (h : off = ![s.val, 0, 0, 0])
    (inb : ∀ a, off a + S1x4x512x1024.size a ≤ S2x4x512x1024.size a) :
    ((ringM b).slice (Rect.unit (s := S2x4x512x1024) off S1x4x512x1024.size inb) (fun _ => rfl)).squeeze
      S4x512x1024 squeezes_S1x4x512x1024_S4x512x1024 = slotM b s := by subst h; rfl

/-- The slot a stream's experts are in before hop `h`. -/
def par (h : ℕ) : Fin 2 := ⟨h % 2, Nat.mod_lt _ (by decide)⟩

/-- The experts a device sends itself at hop 0: the first four clockwise, the last four counter-clockwise. -/
def ewM (b : Bool) : Memref sig .tc .vmem S4x512x1024 .bf16 :=
  match b with
  | true => (Memref.whole cc0_stg3_0 : Memref sig .tc .vmem S8x512x1024 .bf16).slice
      (Rect.unit (s := S8x512x1024) ![0, 0, 0] S4x512x1024.size inb_S8x512x1024_S4x512x1024_0_0_0) (fun _ => rfl)
  | false => (Memref.whole cc0_stg3_0 : Memref sig .tc .vmem S8x512x1024 .bf16).slice
      (Rect.unit (s := S8x512x1024) ![4, 0, 0] S4x512x1024.size inb_S8x512x1024_S4x512x1024_4_0_0) (fun _ => rfl)

/-- Four experts' weights, and a device's eight. -/
abbrev Quad (F : FTy → Type) : Type := S4x512x1024.Idx → Elt F .bf16
abbrev Oct (F : FTy → Type) : Type := S8x512x1024.Idx → Elt F .bf16

/-- The half of a device's experts that goes in direction `b`. -/
def half (b : Bool) (X : Oct F) : Quad F :=
  match b with
  | true => (ewM true).view.read (Elt F) X
  | false => (ewM false).view.read (Elt F) X

/-- What direction `b`'s stream holds at device `c` after `h` hops. -/
def held (ew : Dev nD → Oct F) (b : Bool) (h : ℕ) (c : Dev nD) : Quad F := half b (ew (src b h c))

omit [FloatOps F] in
theorem held_succ_nbr (ew : Dev nD → Oct F) (b : Bool) (h : ℕ) (c : Dev nD) : held ew b (h + 1) (nbr b c) = held ew b h c := by
  unfold held; rw [src_succ_nbr]

/-! ## The semaphores and the cells -/

/-- The kernel's semaphores: the barrier, each direction's credit, and the send and receive semaphores of each hop. -/
inductive Kd where
  | bar
  | cred (b : Bool)
  | send (b : Bool) (h : ℕ)
  | recv (b : Bool) (h : ℕ)
deriving DecidableEq

set_option backward.proofsInPublic true in
def sendS (b : Bool) (h : ℕ) : DmaSem sig := ⟨(if b then 5 else 21) + h % 8, by
  have h : h % 8 < 8 := Nat.mod_lt _ (by decide)
  show _ < 37; split <;> omega⟩
set_option backward.proofsInPublic true in
def recvS (b : Bool) (h : ℕ) : DmaSem sig := ⟨(if b then 13 else 29) + h % 8, by
  have h : h % 8 < 8 := Nat.mod_lt _ (by decide)
  show _ < 37; split <;> omega⟩
def credS (b : Bool) : Sem sig := if b then cc0_scratch6.sem else cc0_scratch7.sem
def barS : Sem sig := sig.barrier 0 rfl

/-- The semaphore of a kind. -/
def Kd.loc : Kd → SemLoc sig
  | .bar => .reg barS
  | .cred b => .reg (credS b)
  | .send b h => .dma (sendS b h)
  | .recv b h => .dma (recvS b h)

/-- The kind of a semaphore, if it is one of the kernel's. -/
def dec : SemLoc sig → Option Kd
  | .reg i => if i.val = 2 then some .bar else some (.cred (i.val = 0))
  | .dma i =>
    if i.val < 5 then none
    else if i.val < 13 then some (.send true (i.val - 5))
    else if i.val < 21 then some (.recv true (i.val - 13))
    else if i.val < 29 then some (.send false (i.val - 21))
    else some (.recv false (i.val - 29))

/-- The kinds in range: hops are below 8. -/
def Kd.ok : Kd → Prop
  | .send _ h => h < 8
  | .recv _ h => h < 8
  | _ => True

theorem dec_loc (k : Kd) (hk : k.ok) : dec k.loc = some k := by
  have hs : ∀ (b : Bool) (h : Fin 8), dec (Kd.send b h.val).loc = some (Kd.send b h.val) := by decide
  have hr : ∀ (b : Bool) (h : Fin 8), dec (Kd.recv b h.val).loc = some (Kd.recv b h.val) := by decide
  rcases k with _ | b | ⟨b, h⟩ | ⟨b, h⟩
  · decide
  · clear hk; revert b; decide
  · exact hs b ⟨h, hk⟩
  · exact hr b ⟨h, hk⟩

/-- The cell of a kind at a device. -/
abbrev cell (c : Dev nD) (k : Kd) : GSem nD τ sig := ((c : Thread nD τ), k.loc)

/-- The kernel's send and receive semaphore arrays of a direction. -/
abbrev sendA (b : Bool) : DmaSems sig S8 := match b with | true => cc0_scratch2 | false => cc0_scratch4
abbrev recvA (b : Bool) : DmaSems sig S8 := match b with | true => cc0_scratch3 | false => cc0_scratch5

theorem sendA_sem (b : Bool) (h : ℕ) (hh : h < 8) {off : Fin 1 → ℕ} (ho : off = ![h]) (inb : ∀ a, off a + S1.size a ≤ S8.size a) :
    (((sendA b).slice (Rect.unit (s := S8) off S1.size inb)).squeeze S_ squeezes_S1_S_).sem = sendS b h := by
  subst ho
  have key : ∀ (b : Bool) (h : Fin 8) (inb : ∀ a, (![h.val] : Fin 1 → ℕ) a + S1.size a ≤ S8.size a),
      (((sendA b).slice (Rect.unit (s := S8) ![h.val] S1.size inb)).squeeze S_ squeezes_S1_S_).sem = sendS b h.val := by
    decide
  exact key b ⟨h, hh⟩ inb
theorem recvA_sem (b : Bool) (h : ℕ) (hh : h < 8) {off : Fin 1 → ℕ} (ho : off = ![h]) (inb : ∀ a, off a + S1.size a ≤ S8.size a) :
    (((recvA b).slice (Rect.unit (s := S8) off S1.size inb)).squeeze S_ squeezes_S1_S_).sem = recvS b h := by
  subst ho
  have key : ∀ (b : Bool) (h : Fin 8) (inb : ∀ a, (![h.val] : Fin 1 → ℕ) a + S1.size a ≤ S8.size a),
      (((recvA b).slice (Rect.unit (s := S8) ![h.val] S1.size inb)).squeeze S_ squeezes_S1_S_).sem = recvS b h.val := by
    decide
  exact key b ⟨h, hh⟩ inb

/-- The credit of one transfer of four experts. -/
@[irreducible] def N : ℕ := (slotM true 0).view.dmaCredit
theorem N_pos : 0 < N := by unfold N; exact View.dmaCredit_pos _ (by decide)
theorem N_slot (b : Bool) (s : Fin 2) : (slotM b s).view.dmaCredit = N := by unfold N; cases b <;> rfl
theorem N_ew (b : Bool) : (ewM b).view.dmaCredit = N := by unfold N; cases b <;> rfl

end Cert.MoeRing

end
-- ==== Proof.Schedule.lean ====
/-
# The schedule of the exchange

What each semaphore of the ring promises in each round: the barrier hands a device its two landing slots, a receive
semaphore the slot landed with its contents, a send semaphore the share lent to the transfer, a credit the slot the next
hop lands in. Parametrised by the experts' weights `ew` the devices start from.
-/
module

public import proofs.«01_k».proof.Proof.Ring

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (ew : Dev nD → Oct F)

/-! ## Resources -/

/-- Slot `s` of direction `b` at device `c`, share `q`, reading `X`. -/
def slot (q : PosShare TreeShare) (b : Bool) (s : Fin 2) (c : Dev nD) (X : Quad F) : sProp 𝕄 :=
  owns (c : Thread nD τ) (slotM b s) q X

/-- The same at some contents. -/
def anySlot (b : Bool) (s : Fin 2) (c : Dev nD) : sProp 𝕄 := iprop(∃ X, slot (F := F) fullShare b s c X)

/-- The half of a device's own experts of direction `b`, share `q`. -/
def own8 (q : PosShare TreeShare) (b : Bool) (c : Dev nD) : sProp 𝕄 :=
  owns (c : Thread nD τ) (ewM b) q (half b (ew c))

omit [FloatOps F] in
instance slot_storable (q b s c) (X : Quad F) : BI.Storable (upEmb : UEmb _ 𝕄) (slot q b s c X) := by
  unfold slot owns; infer_instance
omit [FloatOps F] in
instance anySlot_storable (b s c) : BI.Storable (upEmb : UEmb _ 𝕄) (anySlot (F := F) b s c) := by
  unfold anySlot; infer_instance
omit [FloatOps F] in
instance own8_storable (q b c) : BI.Storable (upEmb : UEmb _ 𝕄) (own8 (F := F) ew q b c) := by
  unfold own8 owns; infer_instance

/-- What device `e` tells the device it receives direction `b` from: its receive cells of that direction and its credit
    cell of the other are at round 0. -/
def ready (b : Bool) (e : Dev nD) : sProp 𝕄 :=
  iprop((bigSep (Finset.range 7) fun h => reached ER (cell e (.recv b h)) 0) ∗ reached ER (cell e (.cred (!b))) 0)

omit [FloatOps F] in
instance ready_storable (b e) : BI.Storable (upEmb : UEmb _ 𝕄) (ready (F := F) b e) := by unfold ready; infer_instance
omit [FloatOps F] in
instance ready_persistent (b e) : BI.Persistent (ready (F := F) b e) := by unfold ready; infer_instance

/-- What a hop's transfer lends of its source. -/
def lent (b : Bool) (h : ℕ) (c : Dev nD) : sProp 𝕄 :=
  if h = 0 then own8 ew fullShare.left b c else slot fullShare.left b (par h) c (held ew b h c)

/-- What a hop's transfer hands the device it lands on. -/
def landed (b : Bool) (h : ℕ) (e : Dev nD) : sProp 𝕄 :=
  iprop(slot fullShare b (par (h + 1)) e (held ew b (h + 1) e) ∗ reached ER (cell (nbr (!b) e) (.cred b)) h)

omit [FloatOps F] in
instance lent_storable (b h c) : BI.Storable (upEmb : UEmb _ 𝕄) (lent (F := F) ew b h c) := by
  unfold lent; split <;> infer_instance
omit [FloatOps F] in
instance landed_storable (b h c) : BI.Storable (upEmb : UEmb _ 𝕄) (landed (F := F) ew b h c) := by
  unfold landed; infer_instance

/-! ## The schedule -/

/-- The duties of a kind's round. -/
def Kd.duties : Kd → ℕ → Finset Bool
  | .bar, r => if r = 0 then Finset.univ else ∅
  | .cred _, r => if r < 6 then {false} else ∅
  | .send _ h, r => if r = 0 ∧ h < 7 then {false} else ∅
  | .recv _ h, r => if r = 0 ∧ h < 7 then {false} else ∅

def Kd.amount : Kd → ℕ
  | .bar => 1
  | .cred _ => 1
  | .send _ _ => N
  | .recv _ _ => N

/-- The payload of duty `d` of round `r` of device `c`'s cell of a kind. -/
def Kd.payload (c : Dev nD) (r : ℕ) (d : Bool) : Kd → sProp 𝕄
  | .bar => iprop(anySlot d 1 (nbr d c) ∗ ready d (nbr d c))
  | .cred b => anySlot b (par r) (nbr b c)
  | .send b h => lent ew b h c
  | .recv b h => landed ew b h c

theorem Kd.amount_pos (k : Kd) : 0 < k.amount := by cases k <;> first | exact Nat.one_pos | exact N_pos

def Rd : Rounds.Schedule (GSem nD τ sig) Bool 𝕄 where
  duties g r := if g.1.2 = .tc then ((dec g.2).elim ∅ fun k => k.duties r) else ∅
  unitless _ := False
  amount g _ _ := (dec g.2).elim 1 Kd.amount
  payload g r d := (dec g.2).elim iprop(emp) (Kd.payload ew g.1.1 r d)
  amount_pos g _ _ _ := by
    cases dec g.2 with
    | none => exact Nat.one_pos
    | some k => exact k.amount_pos

instance Rd_storable (g : GSem nD τ sig) (r : ℕ) (d : Bool) : BI.Storable (upEmb : UEmb _ 𝕄) ((Rd ew).payload g r d) := by
  show BI.Storable upEmb ((dec g.2).elim iprop(emp) (Kd.payload ew g.1.1 r d))
  cases dec g.2 with
  | none => show BI.Storable upEmb iprop(emp); infer_instance
  | some k =>
    show BI.Storable upEmb (Kd.payload ew g.1.1 r d k)
    cases k <;> unfold Kd.payload <;> infer_instance

section Tables
variable (c : Dev nD) (k : Kd) (hk : k.ok)
include hk

theorem Rd_duties (r : ℕ) : (Rd ew).duties (cell c k) r = k.duties r := by
  show (if (cell c k).1.2 = .tc then (dec k.loc).elim ∅ fun k => k.duties r else ∅) = _
  rw [if_pos rfl, dec_loc k hk]; rfl
theorem Rd_amount (r : ℕ) (d : Bool) : (Rd ew).amount (cell c k) r d = k.amount := by
  show (dec k.loc).elim 1 Kd.amount = _
  rw [dec_loc k hk]; rfl
theorem Rd_payload (r : ℕ) (d : Bool) : (Rd ew).payload (cell c k) r d = k.payload ew c r d := by
  show (dec k.loc).elim iprop(emp) (Kd.payload ew c r d) = _
  rw [dec_loc k hk]; rfl
theorem Rd_expect (r : ℕ) : (Rd ew).expect (cell c k) r = (k.duties r).card * k.amount := by
  unfold Schedule.expect Schedule.amountOf
  rw [Rd_duties ew c k hk, Finset.sum_congr rfl fun d _ => Rd_amount ew c k hk r d, Finset.sum_const, smul_eq_mul]
theorem Rd_rest_single (r : ℕ) (hd : k.duties r = {false}) :
    bigSep ((Rd ew).duties (cell c k) r \ ∅) (fun d => (Rd ew).payload (cell c k) r d) = k.payload ew c r false := by
  rw [Finset.sdiff_empty, Rd_duties ew c k hk, hd, bigSep_singleton, Rd_payload ew c k hk]
omit hk in
theorem Rd_rest_bar :
    bigSep ((Rd ew).duties (cell c .bar) 0 \ ∅) (fun d => (Rd ew).payload (cell c .bar) 0 d)
      = iprop(Kd.payload ew c 0 false .bar ∗ Kd.payload ew c 0 true .bar) := by
  rw [Finset.sdiff_empty, Rd_duties ew c .bar trivial, show Kd.duties .bar 0 = Finset.univ from rfl,
    bigSep_univ_eq_bigSepL [false, true] (by decide) (by decide), bigSepL_cons_cons, bigSepL_singleton,
    Rd_payload ew c .bar trivial, Rd_payload ew c .bar trivial]
  rfl

/-- The round a kind's cell ends in. -/
def last : Kd → ℕ
  | .bar => 1
  | .cred _ => 6
  | .send _ h => if h < 7 then 1 else 0
  | .recv _ h => if h < 7 then 1 else 0

theorem Rd_done : ∀ r, last k ≤ r → (Rd ew).duties (cell c k) r = ∅ := by
  intro r hr
  rw [Rd_duties ew c k hk]
  rcases k with _ | b | ⟨b, h⟩ | ⟨b, h⟩ <;> simp only [last] at hr <;> unfold Kd.duties
  · exact if_neg (by omega)
  · exact if_neg (by omega)
  · exact if_neg (by rintro ⟨rfl, h7⟩; rw [if_pos h7] at hr; omega)
  · exact if_neg (by rintro ⟨rfl, h7⟩; rw [if_pos h7] at hr; omega)

end Tables

/-! ## What a device owes, and the levels -/

/-- What device `c` owes from hop `h` on: the landings of its two streams and the credits to its two sources. -/
def due (c : Dev nD) (h : ℕ) : CellTallies nD τ sig ℕ :=
  (∑ i ∈ Finset.Ico h 7, (tallyAt (cell (nbr true c) (.recv true i)) 0 N + tallyAt (cell (nbr false c) (.recv false i)) 0 N))
    + ∑ r ∈ Finset.Ico h 6, (tallyAt (cell (nbr false c) (.cred true)) r 1 + tallyAt (cell (nbr true c) (.cred false)) r 1)

/-- What it owes at launch: the two barrier signals besides. -/
def due₀ (c : Dev nD) : CellTallies nD τ sig ℕ :=
  due c 0 + tallyAt (cell (nbr true c) .bar) 0 1 + tallyAt (cell (nbr false c) .bar) 0 1

def L (g : GSem nD τ sig) : Finset ℕ := if g.1.2 = .tc then Finset.range 6 else ∅

/-- Levels: the staging and send cells lowest, then the barrier, then each hop's landings and credits in order. -/
def Kd.lev : Kd → ℕ → ℕ
  | .bar, _ => 1
  | .send _ _, _ => 0
  | .recv _ h, _ => 2 * h + 2
  | .cred _, i => 2 * i + 3
def lv (g : GSem nD τ sig) (i : ℕ) : ℕ := (dec g.2).elim 0 fun k => k.lev i

theorem L_of_ne (g : GSem nD τ sig) (h : g.1.2 ≠ .tc) : L g = ∅ := if_neg h
theorem L_tc (c : Dev nD) (sm : SemLoc sig) : L ((c : Thread nD τ), sm) = Finset.range 6 := if_pos rfl
theorem mem_L (c : Dev nD) (sm : SemLoc sig) {i : ℕ} (h : i < 6) : i ∈ L ((c : Thread nD τ), sm) := by
  rw [L_tc]; exact Finset.mem_range.mpr h
theorem lv_cell (c : Dev nD) (k : Kd) (hk : k.ok) (i : ℕ) : lv (cell c k) i = k.lev i := by
  show (dec k.loc).elim 0 _ = _
  rw [dec_loc k hk]; rfl

/-- A positive sum of two counts has a positive summand. -/
theorem pos_add {a b : ℕ} (h : 0 < a + b) : 0 < a ∨ 0 < b := by omega

open Idealize.ShloMosaic.Pipeline (tallyAt_pos) in
/-- What is owed from hop `h` on is a landing or a credit of a hop from `h` on. -/
theorem due_pos {c : Dev nD} {h : ℕ} {g : GSem nD τ sig} {i : ℕ} (hp : 0 < due c h g i) :
    (∃ b e n, h ≤ n ∧ n < 7 ∧ g = cell e (.recv b n) ∧ i = 0) ∨ (∃ b e, h ≤ i ∧ i < 6 ∧ g = cell e (.cred b)) := by
  unfold due at hp
  rw [Pi.add_apply, Finsupp.add_apply, Finset.sum_apply, Finset.sum_apply, Finsupp.finsetSum_apply, Finsupp.finsetSum_apply] at hp
  rcases pos_add hp with hp | hp
  · obtain ⟨n, hn, hp⟩ := Finset.exists_ne_zero_of_sum_ne_zero (Nat.pos_iff_ne_zero.mp hp)
    rw [Finset.mem_Ico] at hn
    rw [Pi.add_apply, Finsupp.add_apply] at hp
    rcases pos_add (Nat.pos_iff_ne_zero.mpr hp) with hp | hp
    · obtain ⟨rfl, rfl⟩ := tallyAt_pos hp; exact .inl ⟨_, _, n, hn.1, hn.2, rfl, rfl⟩
    · obtain ⟨rfl, rfl⟩ := tallyAt_pos hp; exact .inl ⟨_, _, n, hn.1, hn.2, rfl, rfl⟩
  · obtain ⟨n, hn, hp⟩ := Finset.exists_ne_zero_of_sum_ne_zero (Nat.pos_iff_ne_zero.mp hp)
    rw [Finset.mem_Ico] at hn
    rw [Pi.add_apply, Finsupp.add_apply] at hp
    rcases pos_add (Nat.pos_iff_ne_zero.mpr hp) with hp | hp
    · obtain ⟨rfl, rfl⟩ := tallyAt_pos hp; exact .inr ⟨_, _, hn.1, hn.2, rfl⟩
    · obtain ⟨rfl, rfl⟩ := tallyAt_pos hp; exact .inr ⟨_, _, hn.1, hn.2, rfl⟩

/-- A wait at a level below everything still owed. -/
theorem mayWait_of (c : Dev nD) (sm : SemLoc sig) {i : ℕ} (hi : i < 6) {O : CellTallies nD τ sig ℕ} (b : ℕ)
    (hlv : lv ((c : Thread nD τ), sm) i ≤ b) (hO : ∀ g j, 0 < O g j → j ∈ L g ∧ b < lv g j) :
    (levAts L lv : sProp 𝕄) ⊢ MayWait (c : Thread nD τ) sm i O :=
  MayOwe.of_cut (L := L) (lev := lv) b (fun p hp => by rw [Finset.mem_singleton.mp hp]; exact mem_L c sm hi)
    (fun g j hg => (hO g j hg).1) (fun p hp => by rw [Finset.mem_singleton.mp hp]; exact hlv) (fun g j hg => (hO g j hg).2)

/-- What is owed from hop `h` on sits above level `2 h + 1`. -/
theorem due_above {c : Dev nD} {h : ℕ} {g : GSem nD τ sig} {j : ℕ} (hp : 0 < due c h g j) : j ∈ L g ∧ 2 * h + 1 < lv g j := by
  rcases due_pos hp with ⟨b, e, n, h1, h2, rfl, rfl⟩ | ⟨b, e, h1, h2, rfl⟩
  · exact ⟨mem_L _ _ (by omega), by rw [lv_cell _ (.recv b n) (show n < 8 by omega)]; show _ < 2 * n + 2; omega⟩
  · exact ⟨mem_L _ _ h2, by rw [lv_cell _ (.cred b) trivial]; show _ < 2 * j + 3; omega⟩

end Cert.MoeRing

end
-- ==== Proof.Moves.lean ====
/-
# One rule for each of the exchange's moves

The signals, waits and transfers of the body, each a rule stated by direction and hop: what it takes of the protocol's
resources and what it leaves.
-/
module

public import proofs.«01_k».proof.Proof.Schedule

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## All the cells -/

set_option backward.proofsInPublic true in
/-- The kernel's own semaphores: the two credits, then the four arrays. -/
def osem (i : Fin 34) : SemLoc sig :=
  if h : i.val < 2 then .reg ⟨i.val, by show _ < 3; omega⟩ else .dma ⟨i.val + 3, by have := i.isLt; show _ < 37; omega⟩

theorem osem_inj : Function.Injective osem := by decide
theorem osem_ne_bar : ∀ i : Fin 34, osem i ≠ Kd.bar.loc := by decide

def barEmb : Dev nD ↪ GSem nD τ sig := ⟨fun c => cell c .bar, fun _ _ h => congrArg (fun g : GSem nD τ sig => g.1.1) h⟩
def scEmb : Dev nD × Fin 34 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem bar_mem (c : Dev nD) : cell c .bar ∈ barCells := Finset.mem_map_of_mem barEmb (Finset.mem_univ c)

theorem exists_osem (k : Kd) (hk : k.ok) (hb : k ≠ .bar) : ∃ i, osem i = k.loc := by
  have hc : ∀ b : Bool, ∃ i, osem i = (Kd.cred b).loc := by decide
  have hs : ∀ (b : Bool) (h : Fin 8), ∃ i, osem i = (Kd.send b h.val).loc := by decide
  have hr : ∀ (b : Bool) (h : Fin 8), ∃ i, osem i = (Kd.recv b h.val).loc := by decide
  rcases k with _ | b | ⟨b, h⟩ | ⟨b, h⟩
  · exact absurd rfl hb
  · exact hc b
  · exact hs b ⟨h, hk⟩
  · exact hr b ⟨h, hk⟩

theorem cell_mem (c : Dev nD) (k : Kd) (hk : k.ok) : cell c k ∈ barCells ∪ scCells := by
  by_cases hb : k = .bar
  · subst hb; exact Finset.mem_union_left _ (bar_mem c)
  · obtain ⟨i, hi⟩ := exists_osem k hk hb
    refine Finset.mem_union_right _ (Finset.mem_map.mpr ⟨(c, i), Finset.mem_univ _, ?_⟩)
    show ((c : Thread nD τ), osem i) = _
    rw [hi]

/-! ## What every device may consult -/

section Env

variable (ew : Dev nD → Oct F) (κ : GSem nD τ sig → ℕ)

/-- The invariants of all the cells, under one map of names, and the levels. -/
def env : sProp 𝕄 := iprop((bigSep (barCells ∪ scCells) fun g => cellInv ER (Rd ew) (κ g) g) ∗ levAts L lv)

instance env_persistent : BI.Persistent (env ew κ) := by unfold env; infer_instance

theorem env_inv' (g : GSem nD τ sig) (hg : g ∈ (barCells ∪ scCells : Finset (GSem nD τ sig))) :
    (bigSep (barCells ∪ scCells) fun g => (cellInv ER (Rd ew) (κ g) g : sProp 𝕄)) ⊢ cellInv ER (Rd ew) (κ g) g := bigSep_elim hg
theorem env_inv (c : Dev nD) (k : Kd) (hk : k.ok) : env ew κ ⊢ cellInv ER (Rd ew) (κ (cell c k)) (cell c k) := by
  unfold env
  iintro ⟨#H, -⟩
  iapply (env_inv' ew κ _ (cell_mem c k hk)); iexact H
theorem env_lev : env ew κ ⊢ levAts L lv := by
  unfold env
  iintro ⟨-, #H⟩; iexact H

/-- What a device owes, whatever it has waited on. -/
def owing (c : Dev nD) (O : CellTallies nD τ sig ℕ) : sProp 𝕄 := iprop(∃ W, owes (c : Thread nD τ) O W)

theorem one_toInt : (1#32 : BitVec 32).toInt = ((1 : ℕ) : ℤ) := by decide
theorem two_toInt : (2#32 : BitVec 32).toInt = ((2 : ℕ) : ℤ) := by decide

/-! ## Signals -/

theorem bar_pay (c : Dev nD) (b : Bool) : (Rd ew).payload ((nbr b c : Thread nD τ), SemLoc.reg barS) 0 (!b)
    = iprop(anySlot (!b) 1 c ∗ ready (!b) c) := by
  have e : (Rd ew).payload (cell (nbr b c) .bar) 0 (!b)
      = iprop(anySlot (!b) 1 (nbr (!b) (nbr b c)) ∗ ready (!b) (nbr (!b) (nbr b c))) := Rd_payload ew (nbr b c) .bar trivial 0 (!b)
  rwa [nbr_nbr'] at e
theorem cred_pay (c : Dev nD) (b : Bool) (r : ℕ) : (Rd ew).payload ((nbr (!b) c : Thread nD τ), SemLoc.reg (credS b)) r false
    = anySlot b (par r) c := by
  have e : (Rd ew).payload (cell (nbr (!b) c) (.cred b)) r false
      = anySlot b (par r) (nbr b (nbr (!b) c)) := Rd_payload ew (nbr (!b) c) (.cred b) trivial r false
  rwa [nbr_nbr] at e

/-- The barrier signal to the neighbour in direction `b`: it hands the landing slot of the other direction. -/
theorem wp_bar_signal (c n : Dev nD) (b : Bool) (hn : n = nbr b c) {s : Sem sig} (hs : s = barS) (O : CellTallies nD τ sig ℕ)
    {α : Type} {Q : α → sProp 𝕄} {k : PUnit → Prog (TpuEff nD τ sig (Elt F) Λ₀ .tc) α} :
    iprop(env ew κ ∗ owing c (O + tallyAt (cell (nbr b c) .bar) 0 1) ∗ dutyTok ER (cell (nbr b c) .bar) 0 (!b)
        ∗ (anySlot (!b) 1 c ∗ ready (!b) c) ∗ reached ER (cell (nbr b c) .bar) 0)
      ⊢ iprop((owing c O -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal ((n : Thread nD τ)) s (1#32 : BitVec 32).toInt) k) Q) := by
  subst hn hs
  rw [one_toInt]
  unfold owing
  iintro ⟨#HE, ⟨%W, HO⟩, Ht, Hpay, Hr⟩ Hk
  iapply (Rounds.wp_signal 𝒱₀ ER (Rd ew) (c : Thread nD τ) none (dst := (nbr b c : Thread nD τ)) (sem := barS) (r := 0) (d := !b)
      (κ := κ (cell (nbr b c) .bar)) (by
        show _ ∈ (Rd ew).duties (cell (nbr b c) .bar) 0
        rw [Rd_duties ew _ .bar trivial]; exact Finset.mem_univ _) (Rd_amount ew (nbr b c) .bar trivial 0 (!b)) 0 O rfl)
    $$ [HO Ht Hpay Hr]
  · isplitr; · iapply (env_inv ew κ (nbr b c) .bar trivial); iexact HE
    isplitl [HO]; · iexact HO
    isplitl [Ht]; · iexact Ht
    isplitl [Hpay]
    · iapply (Entails.of_eq (bar_pay ew c b).symm) $$ Hpay
    · iexact Hr
  iintro HO
  iapply Hk
  iexists W; iexact HO

/-- The credit of round `r` of direction `b`, to the device it receives from: the slot hop `r + 1` lands in. -/
theorem wp_credit_signal (c n : Dev nD) (b : Bool) (r : ℕ) (hr : r < 6) (hn : n = nbr (!b) c) {s : Sem sig} (hs : s = credS b)
    (O : CellTallies nD τ sig ℕ) {α : Type} {Q : α → sProp 𝕄} {k : PUnit → Prog (TpuEff nD τ sig (Elt F) Λ₀ .tc) α} :
    iprop(env ew κ ∗ owing c (O + tallyAt (cell (nbr (!b) c) (.cred b)) r 1) ∗ dutyTok ER (cell (nbr (!b) c) (.cred b)) r false
        ∗ anySlot b (par r) c ∗ reached ER (cell (nbr (!b) c) (.cred b)) r)
      ⊢ iprop((owing c O -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal ((n : Thread nD τ)) s (1#32 : BitVec 32).toInt) k) Q) := by
  subst hn hs
  rw [one_toInt]
  unfold owing
  iintro ⟨#HE, ⟨%W, HO⟩, Ht, Hpay, Hr⟩ Hk
  iapply (Rounds.wp_signal 𝒱₀ ER (Rd ew) (c : Thread nD τ) none (dst := (nbr (!b) c : Thread nD τ)) (sem := credS b) (r := r) (d := false)
      (κ := κ (cell (nbr (!b) c) (.cred b))) (by
        show _ ∈ (Rd ew).duties (cell (nbr (!b) c) (.cred b)) r
        rw [Rd_duties ew _ (.cred b) trivial, show Kd.duties (.cred b) r = {false} from if_pos hr]; exact Finset.mem_singleton_self _)
      (Rd_amount ew (nbr (!b) c) (.cred b) trivial r false) r O rfl)
    $$ [HO Ht Hpay Hr]
  · isplitr; · iapply (env_inv ew κ (nbr (!b) c) (.cred b) trivial); iexact HE
    isplitl [HO]; · iexact HO
    isplitl [Ht]; · iexact Ht
    isplitl [Hpay]
    · iapply (Entails.of_eq (cred_pay ew c b r).symm) $$ Hpay
    · iexact Hr
  iintro HO
  iapply Hk
  iexists W; iexact HO

/-! ## Waits -/

/-- A wait for a whole round of one duty, below everything owed. -/
theorem wp_round (c : Dev nD) (kd : Kd) (hk : kd.ok) (r n i : ℕ) (hd : kd.duties r = {false}) (hn : kd.amount = n) (hi : i < 6)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ kd.loc n K)
    {O : CellTallies nD τ sig ℕ} (hO : ∀ g j, 0 < O g j → j ∈ L g ∧ kd.lev i < lv g j)
    {α : Type} {Q : α → sProp 𝕄} {k : PUnit → Prog (TpuEff nD τ sig (Elt F) Λ₀ .tc) α} :
    iprop(env ew κ ∗ cred (tallyAt (cell c kd) i n) ∗ owing c O ∗ atPos ER (cell c kd) r ∅ 0)
      ⊢ iprop(((owing c O ∗ atPos ER (cell c kd) (r + 1) ∅ 0 ∗ reached ER (cell c kd) (r + 1) ∗ kd.payload ew c r false)
            -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold owing
  iintro ⟨#HE, Hc, ⟨%W, HO⟩, Hat⟩ Hk
  iapply (Rounds.wp_wait_rest_token 𝒱₀ ER (Rd ew) (c : Thread nD τ) none (κ := κ (cell c kd)) (sm := kd.loc)
      hw (Set.mem_univ _) i (O := O) (W := W) (R := r) (m := 0) (T := ∅)
      (by rw [Nat.zero_add]; show n = (Rd ew).expect (cell c kd) r; rw [Rd_expect ew c kd hk, hd, Finset.card_singleton, Nat.one_mul, hn]))
    $$ [Hc HO Hat]
  · isplitr; · iapply (env_inv ew κ c kd hk); iexact HE
    isplitl [Hc]; · iexact Hc
    isplitl [HO]; · iexact HO
    isplitr
    · iapply (mayWait_of c kd.loc hi (kd.lev i) (le_of_eq (lv_cell c kd hk i)) hO)
      iapply (env_lev ew κ); iexact HE
    iexact Hat
  iintro ⟨HO, Hat, Hr, Hpay⟩
  iapply Hk
  isplitl [HO]; · iexists _; iexact HO
  isplitl [Hat]; · iexact Hat
  isplitl [Hr]; · iexact Hr
  iapply (Entails.of_eq (Rd_rest_single ew c kd hk r hd)) $$ Hpay

/-- The barrier wait: both neighbours' landing slots. -/
theorem wp_bar_wait (c : Dev nD) {s : Sem sig} (hs : s = barS) {α : Type} {Q : α → sProp 𝕄}
    {k : PUnit → Prog (TpuEff nD τ sig (Elt F) Λ₀ .tc) α} :
    iprop(env ew κ ∗ cred (tallyAt (cell c .bar) 0 2) ∗ owing c (due c 0) ∗ atPos ER (cell c .bar) 0 ∅ 0)
      ⊢ iprop(((owing c (due c 0) ∗ atPos ER (cell c .bar) 1 ∅ 0 ∗ (anySlot false 1 (nbr false c) ∗ ready false (nbr false c))
              ∗ (anySlot true 1 (nbr true c) ∗ ready true (nbr true c)))
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait s (2#32 : BitVec 32).toInt) k) Q) := by
  subst hs
  rw [two_toInt]
  unfold owing
  iintro ⟨#HE, Hc, ⟨%W, HO⟩, Hat⟩ Hk
  iapply (Rounds.wp_wait_rest_token 𝒱₀ ER (Rd ew) (c : Thread nD τ) none (κ := κ (cell c .bar)) (sm := Kd.bar.loc)
      (wpE_semWait_eq 𝒱₀ (c : Thread nD τ) none Set.univ) (Set.mem_univ _) 0 (O := due c 0) (W := W) (R := 0) (m := 0) (T := ∅)
      (by rw [Nat.zero_add]; show 2 = (Rd ew).expect (cell c .bar) 0; rw [Rd_expect ew c .bar trivial]; rfl))
    $$ [Hc HO Hat]
  · isplitr; · iapply (env_inv ew κ c .bar trivial); iexact HE
    isplitl [Hc]; · iexact Hc
    isplitl [HO]; · iexact HO
    isplitr
    · iapply (mayWait_of c Kd.bar.loc (by decide) 1 (le_of_eq (lv_cell c .bar trivial 0)) (fun g j h => due_above h))
      iapply (env_lev ew κ); iexact HE
    iexact Hat
  iintro ⟨HO, Hat, -, Hpay⟩
  iapply Hk
  isplitl [HO]; · iexists _; iexact HO
  isplitl [Hat]; · iexact Hat
  iapply (Entails.of_eq (Rd_rest_bar ew c)) $$ Hpay

/-- The wait for credit `r` of direction `b`: the neighbour's slot hop `r + 1` lands in. -/
theorem wp_credit_wait (c : Dev nD) (b : Bool) (r : ℕ) (hr : r < 6) {s : Sem sig} (hs : s = credS b) {O : CellTallies nD τ sig ℕ}
    (hO : ∀ g j, 0 < O g j → j ∈ L g ∧ 2 * r + 3 < lv g j) {α : Type} {Q : α → sProp 𝕄} {k : PUnit → Prog (TpuEff nD τ sig (Elt F) Λ₀ .tc) α} :
    iprop(env ew κ ∗ cred (tallyAt (cell c (.cred b)) r 1) ∗ owing c O ∗ atPos ER (cell c (.cred b)) r ∅ 0)
      ⊢ iprop(((owing c O ∗ atPos ER (cell c (.cred b)) (r + 1) ∅ 0 ∗ reached ER (cell c (.cred b)) (r + 1) ∗ anySlot b (par r) (nbr b c))
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait s (1#32 : BitVec 32).toInt) k) Q) := by
  subst hs
  rw [one_toInt]
  exact wp_round ew κ c (.cred b) trivial r 1 r (if_pos hr) rfl hr (wpE_semWait_eq 𝒱₀ (c : Thread nD τ) none Set.univ) hO

/-- A cell closes after its last round. -/
theorem close (c : Dev nD) (kd : Kd) (hk : kd.ok) (r : ℕ) (hr : last kd ≤ r) :
    iprop(env ew κ ∗ atPos ER (cell c kd) r ∅ 0) ⊢ (|={Set.univ}=> semVal (cell c kd) 0 : sProp 𝕄) := by
  iintro ⟨#HE, Hat⟩
  iapply (Rounds.cell_close ER (Rd ew) (Set.mem_univ (κ (cell c kd))) (fun h => h) (R := r)
    (fun r' hr' => Rd_done ew c kd hk r' (hr.trans hr')))
  isplitr; · iapply (env_inv ew κ c kd hk); iexact HE
  iexact Hat

/-- The wait for a transfer sent: the share lent comes back, and the cell closes. -/
theorem wp_wait_send (c : Dev nD) (b : Bool) (h : ℕ) (hh : h < 7) {s : DmaSem sig} (hs : s = sendS b h) {S D : Memref sig .tc .vmem S4x512x1024 .bf16}
    {hS : S.view.WordExact} {hD : D.view.WordExact} (hN : D.view.dmaCredit = N) {O : CellTallies nD τ sig ℕ}
    (hO : ∀ g j, 0 < O g j → j ∈ L g ∧ 0 < lv g j) {α : Type} {Q : α → sProp 𝕄} {k : PUnit → Prog (TpuEff nD τ sig (Elt F) Λ₀ .tc) α} :
    iprop(env ew κ ∗ cred (tallyAt (cell c (.send b h)) 0 N) ∗ owing c O ∗ atPos ER (cell c (.send b h)) 0 ∅ 0)
      ⊢ iprop(((owing c O ∗ semVal (cell c (.send b h)) 0 ∗ lent ew b h c)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s S D hS hD) k) Q) := by
  subst hs
  iintro ⟨#HE, Hc, HO, Hat⟩ Hk
  iapply (wp_round ew κ c (.send b h) (show h < 8 by omega) 0 N 0 (if_pos ⟨rfl, hh⟩) rfl (by decide) (w := .waitDma2 (sendS b h) S D hS hD)
    (fun K => (wpE_waitDma2_eq 𝒱₀ (c : Thread nD τ) none Set.univ K).trans (by rw [hN]; rfl)) hO) $$ [Hc HO Hat]
  · isplitr; · iexact HE
    isplitl [Hc]; · iexact Hc
    isplitl [HO] <;> iassumption
  iintro ⟨HO, Hat, -, Hpay⟩
  imod (close ew κ c (.send b h) (show h < 8 by omega) 1 (le_of_eq (if_pos hh))) $$ [Hat] with Hz
  · isplitr; · iexact HE
    iexact Hat
  iapply Hk
  isplitl [HO]; · iexact HO
  isplitl [Hz]; · iexact Hz
  iapply (Entails.of_eq (show Kd.payload ew c 0 false (.send b h) = lent ew b h c from rfl)) $$ Hpay

/-- The wait for a transfer to land: the slot with its contents, and the cell closes. -/
theorem wp_wait_recv (c : Dev nD) (b : Bool) (h : ℕ) (hh : h < 7) {s : DmaSem sig} (hs : s = recvS b h) {S D : Memref sig .tc .vmem S4x512x1024 .bf16}
    {hS : S.view.WordExact} {hD : D.view.WordExact} (hN : D.view.dmaCredit = N) {O : CellTallies nD τ sig ℕ}
    (hO : ∀ g j, 0 < O g j → j ∈ L g ∧ 2 * h + 2 < lv g j) {α : Type} {Q : α → sProp 𝕄} {k : PUnit → Prog (TpuEff nD τ sig (Elt F) Λ₀ .tc) α} :
    iprop(env ew κ ∗ cred (tallyAt (cell c (.recv b h)) 0 N) ∗ owing c O ∗ atPos ER (cell c (.recv b h)) 0 ∅ 0)
      ⊢ iprop(((owing c O ∗ semVal (cell c (.recv b h)) 0 ∗ landed ew b h c)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s S D hS hD) k) Q) := by
  subst hs
  iintro ⟨#HE, Hc, HO, Hat⟩ Hk
  iapply (wp_round ew κ c (.recv b h) (show h < 8 by omega) 0 N 0 (if_pos ⟨rfl, hh⟩) rfl (by decide) (w := .waitDma2 (recvS b h) S D hS hD)
    (fun K => (wpE_waitDma2_eq 𝒱₀ (c : Thread nD τ) none Set.univ K).trans (by rw [hN]; rfl)) hO) $$ [Hc HO Hat]
  · isplitr; · iexact HE
    isplitl [Hc]; · iexact Hc
    isplitl [HO] <;> iassumption
  iintro ⟨HO, Hat, -, Hpay⟩
  imod (close ew κ c (.recv b h) (show h < 8 by omega) 1 (le_of_eq (if_pos hh))) $$ [Hat] with Hz
  · isplitr; · iexact HE
    iexact Hat
  iapply Hk
  isplitl [HO]; · iexact HO
  isplitl [Hz]; · iexact Hz
  iapply (Entails.of_eq (show Kd.payload ew c 0 false (.recv b h) = landed ew b h c from rfl)) $$ Hpay

/-! ## Transfers -/

/-- What a hop's transfer reads. -/
def lentM (b : Bool) (h : ℕ) : Memref sig .tc .vmem S4x512x1024 .bf16 := if h = 0 then ewM b else slotM b (par h)

theorem lent_eq (b : Bool) (h : ℕ) (c : Dev nD) : lent ew b h c = owns (c : Thread nD τ) (lentM b h) fullShare.left (held ew b h c) := by
  unfold lent lentM
  split
  · next e => subst e; rfl
  · rfl

/-- The transfer of hop `h` in direction `b`. -/
theorem wp_send (c n : Dev nD) (b : Bool) (h : ℕ) (hh : h < 7) (hn : n = nbr b c) {sS sV : DmaSem sig} (hsS : sS = sendS b h) (hsV : sV = recvS b h)
    {S D : Memref sig .tc .vmem S4x512x1024 .bf16} (hS : S = lentM b h) (hD : D = slotM b (par (h + 1)))
    {hsc : (D : Memref sig (Dev.tc n : Thread nD τ).2.kind .vmem S4x512x1024 .bf16).view.ref.isScScratch = false}
    {hsrc : S.view.WordExact} {hdst : D.view.WordExact}
    {hsem : DmaTarget.Typed .vmem (.dma sV) (.remote (Dev.tc n : Thread nD τ) (D : Memref sig (Dev.tc n : Thread nD τ).2.kind .vmem S4x512x1024 .bf16) (.dma sS) hsc)}
    (O : CellTallies nD τ sig ℕ) {α : Type} {Q : α → sProp 𝕄} {k : PUnit → Prog (TpuEff nD τ sig (Elt F) Λ₀ .tc) α} :
    iprop(env ew κ ∗ lent ew b h c ∗ anySlot b (par (h + 1)) (nbr b c) ∗ reached ER (cell c (.cred b)) h
        ∗ owing c (O + tallyAt (cell (nbr b c) (.recv b h)) 0 N)
        ∗ dutyTok ER (cell c (.send b h)) 0 false ∗ reached ER (cell c (.send b h)) 0
        ∗ dutyTok ER (cell (nbr b c) (.recv b h)) 0 false ∗ reached ER (cell (nbr b c) (.recv b h)) 0)
      ⊢ iprop(((cred (tallyAt (cell c (.send b h)) 0 N) ∗ owing c O)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma S (.remote (Dev.tc n : Thread nD τ) D (.dma sS) hsc) (.dma sV) hsrc hdst hsem) k) Q) := by
  subst hn hsS hsV hS hD
  have h8 : h < 8 := by omega
  unfold anySlot slot owing
  rw [lent_eq]
  unfold owns
  iintro ⟨#HE, ⟨%fs, %hfs, Hsrc⟩, ⟨%X, %fd, %hfd, Hdst⟩, Hcr, ⟨%W, HO⟩, Ht1, Hr1, Ht2, Hr2⟩ Hk
  iapply (Rounds.wp_send_pointsTo_with 𝒱₀ ER (Rd ew) (c : Thread nD τ) none (c' := (nbr b c : Thread nD τ))
      (κ₁ := κ (cell c (.send b h))) (κ₂ := κ (cell (nbr b c) (.recv b h))) (r₁ := 0) (r₂ := 0) (d₁ := false) (d₂ := false) (fs := fs) (fd := fd)
      (F := reached ER (cell c (.cred b)) h) (q := fullShare.left)
      (by
        show _ ∈ (Rd ew).duties (cell c (.send b h)) 0
        rw [Rd_duties ew _ (.send b h) h8, show Kd.duties (.send b h) 0 = {false} from if_pos ⟨rfl, hh⟩]; exact Finset.mem_singleton_self _)
      (by
        show _ ∈ (Rd ew).duties (cell (nbr b c) (.recv b h)) 0
        rw [Rd_duties ew _ (.recv b h) h8, show Kd.duties (.recv b h) 0 = {false} from if_pos ⟨rfl, hh⟩]; exact Finset.mem_singleton_self _)
      0 0 N (show (slotM b (par (h + 1))).view.amount (SemLoc.dma (recvS b h)) = N from N_slot b (par (h + 1))) (Rd_amount ew c (.send b h) h8 0 false) (Rd_amount ew (nbr b c) (.recv b h) h8 0 false) O rfl (W := W)
      (by
        show _ ⊢ (Rd ew).payload (cell c (.send b h)) 0 false
        rw [Rd_payload ew c (.send b h) h8]
        show _ ⊢ lent ew b h c
        rw [lent_eq]
        unfold owns
        iintro H; iexists fs
        isplitr; · ipureintro; exact hfs
        iexact H)
      (by
        show _ ⊢ (Rd ew).payload (cell (nbr b c) (.recv b h)) 0 false
        rw [Rd_payload ew (nbr b c) (.recv b h) h8]
        show _ ⊢ landed ew b h (nbr b c)
        unfold landed slot owns
        rw [nbr_nbr', held_succ_nbr, hfs]
        iintro ⟨H, Hr⟩
        isplitl [H]
        · iexists (View.write (Elt F) (slotM b (par (h + 1))).view fd (held ew b h c) Finset.univ)
          isplitr
          · ipureintro; exact View.read_write_univ _ _
          iexact H
        · iexact Hr)) $$ [Hsrc Hdst Hcr HO Ht1 Hr1 Ht2 Hr2]
  · isplitr; · iapply (env_inv ew κ c (.send b h) h8); iexact HE
    isplitr; · iapply (env_inv ew κ (nbr b c) (.recv b h) h8); iexact HE
    isplitl [Hsrc]; · iexact Hsrc
    isplitl [Hdst Hcr]
    · isplitl [Hdst] <;> iassumption
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

end Env

end Cert.MoeRing

end
-- ==== Proof.Blocks.lean ====
/-
# One expert's step and the result after each hop

What one trip of an expert loop stores, as a function of the four experts held; the stored result after each hop.
-/
module

public import proofs.«01_k».proof.Proof.Ring
public import Idealize.ShloMosaic.Lib.Pipeline.Value

@[expose] public section

noncomputable section

namespace Cert.MoeRing

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

/-- The weights of expert `e` of four. -/
def wt (X : Quad F) (e : ℕ) : Vec F S512x1024 .bf16 := fun j =>
  X (Fin.cons ⟨e % 4, Nat.mod_lt _ (by decide)⟩ j)

/-- The two columns of a two-column array. -/
def col {e : EltTy} (k : Fin 2) (X : Vec F S2048x2 e) : Vec F S2048x1 e := fun j => X (Fin.cons (j 0) (Fin.cons k fun a => a.elim0))

/-- What expert number `n` is weighted by at each token: the weights of the choices that name it, added. -/
def gate (n : ℕ) (idx : Vec F S2048x2 .i32) (w : Vec F S2048x2 .f32) : FVec F S2048x1 .f32 :=
  addf (select (cmpi .eq (col 0 idx) (broadcast S2048x1 (BitVec.ofNat 32 n))) (col 0 w) (broadcast S2048x1 (Scalar.ofBits .f32 0x00000000#32)))
    (select (cmpi .eq (col 1 idx) (broadcast S2048x1 (BitVec.ofNat 32 n))) (col 1 w) (broadcast S2048x1 (Scalar.ofBits .f32 0x00000000#32)))

/-- One trip: expert number `n` with weights `W` added to the result so far. -/
def mac (x : Vec F S2048x512 .bf16) (idx : Vec F S2048x2 .i32) (w : Vec F S2048x2 .f32) (n : ℕ) (W : Vec F S512x1024 .bf16)
    (A : FVec F S2048x1024 .f32) : FVec F S2048x1024 .f32 :=
  addf A (mulf (broadcastTo S2048x1024 (gate n idx w) broadcasts_S2048x1_S2048x1024)
    (matmul dot_S2048x512_S512x1024_S2048x1024_1_0_0_1_n_n none (x : FVec F S2048x512 .bf16) (W : FVec F S512x1024 .bf16)
      (constant S2048x1024 .f32 0x00000000#32)))

/-- The first `k` of four experts, numbered from `n`. -/
def four (x : Vec F S2048x512 .bf16) (idx : Vec F S2048x2 .i32) (w : Vec F S2048x2 .f32) (n : ℕ) (X : Quad F)
    (A : FVec F S2048x1024 .f32) : ℕ → FVec F S2048x1024 .f32
  | 0 => A
  | k + 1 => mac x idx w (n + k) (wt X k) (four x idx w n X A k)

/-- The number of the first expert direction `b`'s stream holds at device `c` after `h` hops. -/
def base (b : Bool) (h : ℕ) (c : Dev nD) : ℕ := 8 * (src b h c).val + if b then 0 else 4

/-- The result after hops `0` to `h - 1`. -/
def outAfter (x : Vec F S2048x512 .bf16) (idx : Vec F S2048x2 .i32) (w : Vec F S2048x2 .f32) (ew : Dev nD → Oct F) (c : Dev nD) :
    ℕ → FVec F S2048x1024 .f32
  | 0 => k0_pay3
  | h + 1 => four x idx w (base false h c) (held ew false h c)
      (four x idx w (base true h c) (held ew true h c) (outAfter x idx w ew c h) 4) 4

/-! ## The expert numbers -/

theorem word_own (c : Dev nD) (v : BitVec 32) (hv : v = BitVec.ofNat 32 c.val) (e : ℕ) (he : e < 4) :
    Scalar.addi (Scalar.addi (Scalar.muli v 8#32) 0#32) (Scf.iv 0#32 1#32 e) = BitVec.ofNat 32 (base true 0 c + e) := by
  subst hv
  have h : ∀ (c : Fin 8) (e : Fin 4), Scalar.addi (Scalar.addi (Scalar.muli (BitVec.ofNat 32 c.val) 8#32) 0#32) (Scf.iv 0#32 1#32 e.val)
    = BitVec.ofNat 32 (8 * c.val + 0 + e.val) := by decide
  exact h c ⟨e, he⟩
theorem word_own' (c : Dev nD) (v : BitVec 32) (hv : v = BitVec.ofNat 32 c.val) (e : ℕ) (he : e < 4) :
    Scalar.addi (Scalar.addi (Scalar.muli v 8#32) 4#32) (Scf.iv 0#32 1#32 e) = BitVec.ofNat 32 (base false 0 c + e) := by
  subst hv
  have h : ∀ (c : Fin 8) (e : Fin 4), Scalar.addi (Scalar.addi (Scalar.muli (BitVec.ofNat 32 c.val) 8#32) 4#32) (Scf.iv 0#32 1#32 e.val)
    = BitVec.ofNat 32 (8 * c.val + 4 + e.val) := by decide
  exact h c ⟨e, he⟩

/-- Position `k` of the ring as a word. -/
def ringWord (k : BitVec 32) : BitVec 32 := Scalar.select (Scalar.cmpi .slt k 4#32) k (Scalar.subi 11#32 k)

theorem word_cw (c : Dev nD) (v : BitVec 32) (hv : v = BitVec.ofNat 32 (swap c.val)) (t e : ℕ) (ht : t < 7) (he : e < 4) :
    Scalar.addi (Scalar.addi (Scalar.muli (ringWord (Scalar.remsi (Scalar.addi (Scalar.subi v (Scf.iv 1#32 1#32 t)) 8#32) 8#32)) 8#32) 0#32)
      (Scf.iv 0#32 1#32 e) = BitVec.ofNat 32 (base true (t + 1) c + e) := by
  subst hv
  have h : ∀ (c : Dev nD) (t : Fin 7) (e : Fin 4),
      Scalar.addi (Scalar.addi (Scalar.muli (ringWord (Scalar.remsi (Scalar.addi (Scalar.subi (BitVec.ofNat 32 (swap c.val)) (Scf.iv 1#32 1#32 t.val)) 8#32) 8#32)) 8#32) 0#32)
        (Scf.iv 0#32 1#32 e.val) = BitVec.ofNat 32 (base true (t.val + 1) c + e.val) := by decide
  exact h c ⟨t, ht⟩ ⟨e, he⟩
theorem word_ccw (c : Dev nD) (v : BitVec 32) (hv : v = BitVec.ofNat 32 (swap c.val)) (t e : ℕ) (ht : t < 7) (he : e < 4) :
    Scalar.addi (Scalar.addi (Scalar.muli (ringWord (Scalar.remsi (Scalar.addi v (Scf.iv 1#32 1#32 t)) 8#32)) 8#32) 4#32)
      (Scf.iv 0#32 1#32 e) = BitVec.ofNat 32 (base false (t + 1) c + e) := by
  subst hv
  have h : ∀ (c : Dev nD) (t : Fin 7) (e : Fin 4),
      Scalar.addi (Scalar.addi (Scalar.muli (ringWord (Scalar.remsi (Scalar.addi (BitVec.ofNat 32 (swap c.val)) (Scf.iv 1#32 1#32 t.val)) 8#32)) 8#32) 4#32)
        (Scf.iv 0#32 1#32 e.val) = BitVec.ofNat 32 (base false (t.val + 1) c + e.val) := by decide
  exact h c ⟨t, ht⟩ ⟨e, he⟩

/-! ## What the loads read -/

section Loads

omit [FloatOps F] in
/-- Column `k` of a whole two-column buffer. -/
theorem load_col {e : EltTy} (M : Memref sig .tc .vmem S2048x2 e) (k : Fin 2) {off : Fin 2 → ℕ} (ho : off = ![0, k.val])
    (inb : ∀ a, off a + S2048x1.size a ≤ S2048x2.size a) (hc : S2048x1.ShapeCasts S2048x1) (f : M.view.ty.Contents (Elt F)) :
    shapeCast S2048x1 (M.view.readAt (Elt F) (Rect.unit (s := S2048x2) off S2048x1.size inb).toLoadRect f) hc = col k (M.view.read (Elt F) f) := by
  subst ho
  funext j
  rw [shapeCast_apply (k := j) _ _ _ rfl, View.readAt_apply]
  refine congrArg _ (funext fun a => Fin.ext ?_)
  have h0 : (j 1).val = 0 := Nat.lt_one_iff.mp (j 1).isLt
  fin_cases a
  · show 0 + 1 * (j 0).val = (j 0).val; omega
  · show k.val + 1 * (j 1).val = k.val; omega

omit [FloatOps F] in
/-- A whole array, read at its own shape. -/
theorem load_all {s : Shape} {e : EltTy} (M : Memref sig .tc .vmem s e) {off : Fin s.rank → ℕ} (ho : off = fun _ => 0)
    (inb : ∀ a, off a + s.size a ≤ s.size a) (hc : s.ShapeCasts s) (f : M.view.ty.Contents (Elt F)) :
    shapeCast s (M.view.readAt (Elt F) (Rect.unit (s := s) off s.size inb).toLoadRect f) hc = M.view.read (Elt F) f := by
  subst ho
  funext j
  rw [shapeCast_apply (k := j) _ _ _ rfl, View.readAt_apply]
  refine congrArg _ (funext fun a => Fin.ext ?_)
  show 0 + 1 * (j a).val = (j a).val; omega

/-- An index of one expert's weights, under one and two unit axes, and among four. -/
def ix1 (j : S512x1024.Idx) : S1x512x1024.Idx := Fin.cons (0 : Fin 1) j
def ix11 (j : S512x1024.Idx) : S1x1x512x1024.Idx := Fin.cons (0 : Fin 1) (ix1 j)
def ixE (e : ℕ) (j : S512x1024.Idx) : S4x512x1024.Idx := Fin.cons (⟨e % 4, Nat.mod_lt _ (by decide)⟩ : Fin 4) j
def ix1E (e : ℕ) (j : S512x1024.Idx) : S1x4x512x1024.Idx := Fin.cons (0 : Fin 1) (ixE e j)

theorem pos_ix1 (j : S512x1024.Idx) : (S1x512x1024.rowMajor (ix1 j)).val = (S512x1024.rowMajor j).val := by
  rw [Shape.rowMajor_val_three, Shape.rowMajor_val_two]
  show ((0 * 512 + (j 0).val) * 1024 + (j 1).val) = (j 0).val * 1024 + (j 1).val
  omega
theorem pos_ix11 (j : S512x1024.Idx) : (S1x1x512x1024.rowMajor (ix11 j)).val = (S512x1024.rowMajor j).val := by
  rw [Shape.rowMajor_val_four, Shape.rowMajor_val_two]
  show (((0 * 1 + 0) * 512 + (j 0).val) * 1024 + (j 1).val) = (j 0).val * 1024 + (j 1).val
  omega
theorem pos_ix1E (e : ℕ) (j : S512x1024.Idx) : (S1x4x512x1024.rowMajor (ix1E e j)).val = (S4x512x1024.rowMajor (ixE e j)).val := by
  rw [Shape.rowMajor_val_four, Shape.rowMajor_val_three]
  show (((0 * 4 + e % 4) * 512 + (j 0).val) * 1024 + (j 1).val) = (e % 4 * 512 + (j 0).val) * 1024 + (j 1).val
  omega

omit [FloatOps F] in
/-- An expert's weights of a slot, loaded through the two-slot buffer. -/
theorem load_slot (b : Bool) (s : Fin 2) (e : ℕ) (he : e < 4) {off : Fin 4 → ℕ} (ho : off = ![s.val, e, 0, 0])
    (inb : ∀ a, off a + S1x1x512x1024.size a ≤ S2x4x512x1024.size a) (hc : S1x1x512x1024.ShapeCasts S512x1024)
    (f : (ringM b).view.ty.Contents (Elt F)) :
    shapeCast S512x1024 ((ringM b).view.readAt (Elt F) (Rect.unit (s := S2x4x512x1024) off S1x1x512x1024.size inb).toLoadRect f) hc
      = wt (F := F) ((slotM b s).view.read (Elt F) f) e := by
  subst ho
  funext j
  refine (shapeCast_apply (s := S1x1x512x1024) (t := S512x1024) _ hc j (ix11 j) (pos_ix11 j)).trans ?_
  refine Eq.trans ?_ (shapeCast_apply (s := S1x4x512x1024) (t := S4x512x1024) ((ringM b).view.readAt (Elt F)
    (Rect.unit (s := S2x4x512x1024) ![s.val, 0, 0, 0] S1x4x512x1024.size (slot_inb s)).toLoadRect f) (by decide) (ixE e j) (ix1E e j)
    (pos_ix1E e j)).symm
  rw [View.readAt_apply, View.readAt_apply]
  refine congrArg _ (funext fun a => Fin.ext ?_)
  fin_cases a
  · rfl
  · show e + 1 * 0 = 0 + 1 * (e % 4); omega
  · rfl
  · rfl

omit [FloatOps F] in
/-- An expert's weights of a device's own eight, loaded through the whole buffer. -/
theorem load_own (b : Bool) (e : ℕ) (he : e < 4) {off : Fin 3 → ℕ} (ho : off = ![e + if b then 0 else 4, 0, 0])
    (inb : ∀ a, off a + S1x512x1024.size a ≤ S8x512x1024.size a) (hc : S1x512x1024.ShapeCasts S512x1024) (f : Oct F) :
    shapeCast S512x1024 ((Memref.whole cc0_stg3_0 : Memref sig .tc .vmem S8x512x1024 .bf16).view.readAt (Elt F)
        (Rect.unit (s := S8x512x1024) off S1x512x1024.size inb).toLoadRect f) hc = wt (half b f) e := by
  subst ho
  funext j
  refine (shapeCast_apply (s := S1x512x1024) (t := S512x1024) _ hc j (ix1 j) (pos_ix1 j)).trans ?_
  rw [View.readAt_apply]
  cases b
  · show _ = (Memref.whole cc0_stg3_0 : Memref sig .tc .vmem S8x512x1024 .bf16).view.read (Elt F) f _
    refine congrArg _ (funext fun a => Fin.ext ?_)
    fin_cases a
    · show e + 4 + 1 * 0 = 4 + 1 * (e % 4); omega
    · rfl
    · rfl
  · show _ = (Memref.whole cc0_stg3_0 : Memref sig .tc .vmem S8x512x1024 .bf16).view.read (Elt F) f _
    refine congrArg _ (funext fun a => Fin.ext ?_)
    fin_cases a
    · show e + 0 + 1 * 0 = 0 + 1 * (e % 4); omega
    · rfl
    · rfl

/-- The slot's elements include an expert's. -/
theorem slot_covers (b : Bool) (s : Fin 2) (e : ℕ) (he : e < 4) {off : Fin 4 → ℕ} (ho : off = ![s.val, e, 0, 0])
    (inb : ∀ a, off a + S1x1x512x1024.size a ≤ S2x4x512x1024.size a) :
    (ringM b).view.setOn (Rect.unit (s := S2x4x512x1024) off S1x1x512x1024.size inb).toLoadRect.set ⊆ (slotM b s).view.set := by
  subst ho
  refine (?_ : _ ⊆ ((ringM b).slice (Rect.unit (s := S2x4x512x1024) ![s.val, 0, 0, 0] S1x4x512x1024.size (slot_inb s)) (fun _ => rfl)).view.set).trans
    (View.set_reshape _ _).superset
  refine Memref.setOn_subset_slice_of_within _ _ _ _ ?_
  have key : ∀ (s : Fin 2) (e : Fin 4) (inb : ∀ a, (![s.val, e.val, 0, 0] : Fin 4 → ℕ) a + S1x1x512x1024.size a ≤ S2x4x512x1024.size a),
      LoadRect.within (Rect.unit (s := S2x4x512x1024) ![s.val, 0, 0, 0] S1x4x512x1024.size (slot_inb s))
        (Rect.unit (s := S2x4x512x1024) ![s.val, e.val, 0, 0] S1x1x512x1024.size inb).toLoadRect = true := by decide
  exact key s ⟨e, he⟩ inb

end Loads

end Cert.MoeRing

end
-- ==== Proof.Trips.lean ====
/-
# The expert loops

Each of the kernel's four inner loops adds four experts to the stored result: one rule for a trip, one for a loop, and
the four loops as its instances.
-/
module

public import proofs.«01_k».proof.Proof.Schedule
public import proofs.«01_k».proof.Proof.Blocks

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The memrefs the loops go through -/

abbrev xM : Memref sig .tc .vmem S2048x512 .bf16 := Memref.whole cc0_stg0_0
abbrev wM : Memref sig .tc .vmem S2048x2 .f32 := Memref.whole cc0_stg1_0
abbrev iM : Memref sig .tc .vmem S2048x2 .i32 := Memref.whole cc0_stg2_0
abbrev eM : Memref sig .tc .vmem S8x512x1024 .bf16 := Memref.whole cc0_stg3_0
abbrev oM : Memref sig .tc .vmem S2048x1024 .f32 := Memref.whole cc0_stg4_0

/-- The rectangles the program's whole and column accesses go through. -/
abbrev rC0 : Rect S2048x2 := Rect.unit (s := S2048x2) ![0, 0] S2048x1.size inb_S2048x2_S2048x1_0_0
abbrev rC1 : Rect S2048x2 := Rect.unit (s := S2048x2) ![0, 1] S2048x1.size inb_S2048x2_S2048x1_0_1
abbrev rO : Rect S2048x1024 := Rect.unit (s := S2048x1024) ![0, 0] S2048x1024.size inb_S2048x1024_S2048x1024_0_0
abbrev rX : Rect S2048x512 := Rect.unit (s := S2048x512) ![0, 0] S2048x512.size inb_S2048x512_S2048x512_0_0

/-- What the loops keep: the tokens, the weights of the choices, the choices, and the result so far. -/
def comp (c : Dev nD) (x : Vec F S2048x512 .bf16) (idx : Vec F S2048x2 .i32) (w : Vec F S2048x2 .f32) (A : FVec F S2048x1024 .f32) : sProp 𝕄 :=
  iprop((xM.view.loc (c : Thread nD τ) ↦{fullShare} x) ∗ (wM.view.loc (c : Thread nD τ) ↦{fullShare} w)
    ∗ (iM.view.loc (c : Thread nD τ) ↦{fullShare} idx) ∗ (oM.view.loc (c : Thread nD τ) ↦{fullShare} A))

/-- A trip: the loads, with the expert's weights through `r` of `MW`, and the store of `pay` of them. -/
def trip {s : Shape} (MW : Memref sig .tc .vmem s .bf16) (r : LoadRect s) (hr : MW.view.LoadsAt r)
    (pay : Vec F S2048x1 .i32 → Vec F S2048x1 .f32 → Vec F S2048x1 .i32 → Vec F S2048x1 .f32 → Vec F S2048x1024 .f32
      → Vec F S2048x512 .bf16 → (r.shape.Idx → Elt F .bf16) → FVec F S2048x1024 .f32) :
    Prog (TpuEff nD τ sig (Elt F) Λ₀ .tc) Unit := do
  let a : Vec F S2048x1 .i32 ← Prog.lift (.load iM rC0.toLoadRect (View.loadsAt_vmem h_S2048x1))
  let b : Vec F S2048x1 .f32 ← Prog.lift (.load wM rC0.toLoadRect (View.loadsAt_vmem h_S2048x1))
  let a' : Vec F S2048x1 .i32 ← Prog.lift (.load iM rC1.toLoadRect (View.loadsAt_vmem h_S2048x1))
  let b' : Vec F S2048x1 .f32 ← Prog.lift (.load wM rC1.toLoadRect (View.loadsAt_vmem h_S2048x1))
  let o : Vec F S2048x1024 .f32 ← Prog.lift (.load oM rO.toLoadRect (View.loadsAt_vmem h_S2048x1024))
  let x : Vec F S2048x512 .bf16 ← Prog.lift (.load xM rX.toLoadRect (View.loadsAt_vmem h_S2048x512))
  let W ← Prog.lift (.load MW r hr)
  let _o : Vec F S2048x1024 .f32 ← Prog.lift (.load oM rO.toLoadRect (View.loadsAt_vmem h_S2048x1024))
  Prog.lift (.store oM rO (pay a b a' b' o x W) Finset.univ (View.stores_vmem_bits_univ h_S2048x1024 rfl) (.inl rfl))
  pure ⟨⟩

omit [FloatOps F] in
theorem zero2 : (![0, 0] : Fin 2 → ℕ) = fun _ => 0 := by decide

/-- The trip's rule. -/
theorem wp_trip (c : Dev nD) {s : Shape} (MW : Memref sig .tc .vmem s .bf16) (r : LoadRect s) (hr : MW.view.LoadsAt r) (pay)
    (x : Vec F S2048x512 .bf16) (idx : Vec F S2048x2 .i32) (w : Vec F S2048x2 .f32) (A A' : FVec F S2048x1024 .f32)
    {S : Finset (Idx (MW.view.loc (c : Thread nD τ)))} {q : PosShare TreeShare} {f : Buf (Elt F) (MW.view.loc (c : Thread nD τ))}
    (hS : MW.view.setOn r.set ⊆ S)
    (hpay : pay (iM.view.readAt (Elt F) rC0.toLoadRect idx) (wM.view.readAt (Elt F) rC0.toLoadRect w)
      (iM.view.readAt (Elt F) rC1.toLoadRect idx) (wM.view.readAt (Elt F) rC1.toLoadRect w) (oM.view.readAt (Elt F) rO.toLoadRect A)
      (xM.view.readAt (Elt F) rX.toLoadRect x) (MW.view.readAt (Elt F) r f) = A') :
    iprop(comp c x idx w A ∗ (MW.view.loc (c : Thread nD τ) ↦[S]{q} f))
      ⊢ wp frame (wpE (defs₀ (F := F)) 𝒱₀ (c : Thread nD τ) none) Set.univ (trip MW r hr pay)
          fun _ => iprop(comp c x idx w A' ∗ (MW.view.loc (c : Thread nD τ) ↦[S]{q} f)) := by
  unfold trip comp
  simp only [Prog.lift, Prog.bind_op, Prog.bind_ret, Prog.pure_eq_ret]
  iintro ⟨⟨Hx, Hw, Hi, Ho⟩, HW⟩
  iapply (wp_load 𝒱₀ (c : Thread nD τ) none Set.univ (m := iM) (Finset.subset_univ _)) $$ Hi; iintro Hi
  iapply (wp_load 𝒱₀ (c : Thread nD τ) none Set.univ (m := wM) (Finset.subset_univ _)) $$ Hw; iintro Hw
  iapply (wp_load 𝒱₀ (c : Thread nD τ) none Set.univ (m := iM) (Finset.subset_univ _)) $$ Hi; iintro Hi
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_load 𝒱₀ (c : Thread nD τ) none Set.univ (m := xM) (Finset.subset_univ _)) $$ Hx; iintro Hx
  iapply (wp_load 𝒱₀ (c : Thread nD τ) none Set.univ (m := MW) hS) $$ HW; iintro HW
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [hpay, wp_ret]
  imodintro
  isplitr [HW]
  · isplitl [Hx]; · iexact Hx
    isplitl [Hw]; · iexact Hw
    isplitl [Hi]; · iexact Hi
    iapply (Entails.of_eq (congrArg (fun g => (oM.view.loc (c : Thread nD τ) ↦{fullShare} g : sProp 𝕄))
      (Memref.write_access_unit_zero_univ (Elt F) cc0_stg4_0 zero2 _ A A'))) $$ Ho
  · iexact HW

/-- A loop of four trips, each adding its expert of `X`. -/
theorem wp_four (c : Dev nD) (lp : Scf.Loop 32) (ok : lp.OK) (ht : lp.trips = 4) {s : Shape} (MW : Memref sig .tc .vmem s .bf16)
    (r : Fin lp.trips → LoadRect s) (hr : ∀ k, MW.view.LoadsAt (r k)) (pay : (k : Fin lp.trips) → Vec F S2048x1 .i32 → Vec F S2048x1 .f32
      → Vec F S2048x1 .i32 → Vec F S2048x1 .f32 → Vec F S2048x1024 .f32 → Vec F S2048x512 .bf16 → ((r k).shape.Idx → Elt F .bf16) → FVec F S2048x1024 .f32)
    (body : Fin lp.trips → Unit → Prog (TpuEff nD τ sig (Elt F) Λ₀ .tc) Unit)
    (hbody : ∀ k, body k () = trip MW (r k) (hr k) (pay k))
    (x : Vec F S2048x512 .bf16) (idx : Vec F S2048x2 .i32) (w : Vec F S2048x2 .f32) (n : ℕ) (X : Quad F) (A : FVec F S2048x1024 .f32)
    {S : Finset (Idx (MW.view.loc (c : Thread nD τ)))} {q : PosShare TreeShare} {f : Buf (Elt F) (MW.view.loc (c : Thread nD τ))}
    (hS : ∀ k, MW.view.setOn (r k).set ⊆ S)
    (hpay : ∀ k B, pay k (iM.view.readAt (Elt F) rC0.toLoadRect idx) (wM.view.readAt (Elt F) rC0.toLoadRect w)
      (iM.view.readAt (Elt F) rC1.toLoadRect idx) (wM.view.readAt (Elt F) rC1.toLoadRect w) (oM.view.readAt (Elt F) rO.toLoadRect B)
      (xM.view.readAt (Elt F) rX.toLoadRect x) (MW.view.readAt (Elt F) (r k) f) = mac x idx w (n + k.val) (wt X k.val) B)
    {α : Type} {kk : Unit → Prog (TpuEff nD τ sig (Elt F) Λ₀ .tc) α} {Q : α → sProp 𝕄} :
    iprop(comp c x idx w A ∗ (MW.view.loc (c : Thread nD τ) ↦[S]{q} f))
      ⊢ iprop((iprop(comp c x idx w (four x idx w n X A 4) ∗ (MW.view.loc (c : Thread nD τ) ↦[S]{q} f))
          -∗ wp frame (wpE (defs₀ (F := F)) 𝒱₀ (c : Thread nD τ) none) Set.univ (kk ()) Q)
        -∗ wp frame (wpE (defs₀ (F := F)) 𝒱₀ (c : Thread nD τ) none) Set.univ (Scf.Loop.for lp ok () body >>= kk) Q) := by
  iintro H Hk
  iapply (Scf.wp_for_bind frame (wpE (defs₀ (F := F)) 𝒱₀ (c : Thread nD τ) none) Set.univ lp.lb lp.ub lp.st ok () body
    (fun k _ => iprop(comp c x idx w (four x idx w n X A k) ∗ (MW.view.loc (c : Thread nD τ) ↦[S]{q} f)))
    (fun k acc => by
      rw [hbody k]
      exact wp_trip c MW (r k) (hr k) (pay k) x idx w _ _ (hS k) (hpay k _))) $$ [H]
  · iexact H
  iintro %acc H
  iapply Hk
  iapply (Entails.of_eq (congrArg (fun k => iprop(comp c x idx w (four x idx w n X A k) ∗ (MW.view.loc (c : Thread nD τ) ↦[S]{q} f))) ht)) $$ H

/-! ## The four loops -/

theorem trips1 : k0_t1_loop.trips = 4 := by decide
theorem trips2 : k0_t2_loop.trips = 4 := by decide
theorem trips3 : k0_t3_loop.trips = 7 := by decide
theorem trips4 : k0_t4_loop.trips = 4 := by decide
theorem trips5 : k0_t5_loop.trips = 4 := by decide

/-- A payload at the values loaded: expert `m`'s step. -/
theorem pay_eq (x : Vec F S2048x512 .bf16) (idx : Vec F S2048x2 .i32) (w : Vec F S2048x2 .f32) (B : FVec F S2048x1024 .f32)
    {n : BitVec 32} {m : ℕ} (hn : n = BitVec.ofNat 32 m) {W W' : FVec F S512x1024 .bf16} (hW : W = W') :
    addf (shapeCast S2048x1024 (oM.view.readAt (Elt F) rO.toLoadRect B) shapeCasts_S2048x1024_S2048x1024)
      (mulf (broadcastTo S2048x1024
          (addf
            (select (cmpi .eq (shapeCast S2048x1 (iM.view.readAt (Elt F) rC0.toLoadRect idx) shapeCasts_S2048x1_S2048x1) (broadcast S2048x1 n))
              (shapeCast S2048x1 (wM.view.readAt (Elt F) rC0.toLoadRect w) shapeCasts_S2048x1_S2048x1)
              (broadcast S2048x1 (Scalar.ofBits .f32 0x00000000#32)))
            (select (cmpi .eq (shapeCast S2048x1 (iM.view.readAt (Elt F) rC1.toLoadRect idx) shapeCasts_S2048x1_S2048x1) (broadcast S2048x1 n))
              (shapeCast S2048x1 (wM.view.readAt (Elt F) rC1.toLoadRect w) shapeCasts_S2048x1_S2048x1)
              (broadcast S2048x1 (Scalar.ofBits .f32 0x00000000#32))))
          broadcasts_S2048x1_S2048x1024)
        (matmul dot_S2048x512_S512x1024_S2048x1024_1_0_0_1_n_n none
          (shapeCast S2048x512 (xM.view.readAt (Elt F) rX.toLoadRect x) shapeCasts_S2048x512_S2048x512 : FVec F S2048x512 .bf16) W
          (constant S2048x1024 .f32 0x00000000#32)))
      = mac x idx w m (W' : Vec F S512x1024 .bf16) B := by
  subst hn hW
  have e1 : shapeCast S2048x1 (iM.view.readAt (Elt F) rC0.toLoadRect idx) shapeCasts_S2048x1_S2048x1 = col 0 idx :=
    load_col (F := F) (e := .i32) iM 0 rfl inb_S2048x2_S2048x1_0_0 shapeCasts_S2048x1_S2048x1 idx
  have e2 : shapeCast S2048x1 (iM.view.readAt (Elt F) rC1.toLoadRect idx) shapeCasts_S2048x1_S2048x1 = col 1 idx :=
    load_col (F := F) (e := .i32) iM 1 rfl inb_S2048x2_S2048x1_0_1 shapeCasts_S2048x1_S2048x1 idx
  have e3 : shapeCast S2048x1 (wM.view.readAt (Elt F) rC0.toLoadRect w) shapeCasts_S2048x1_S2048x1 = col 0 w :=
    load_col (F := F) (e := .f32) wM 0 rfl inb_S2048x2_S2048x1_0_0 shapeCasts_S2048x1_S2048x1 w
  have e4 : shapeCast S2048x1 (wM.view.readAt (Elt F) rC1.toLoadRect w) shapeCasts_S2048x1_S2048x1 = col 1 w :=
    load_col (F := F) (e := .f32) wM 1 rfl inb_S2048x2_S2048x1_0_1 shapeCasts_S2048x1_S2048x1 w
  have e5 := load_all (F := F) (e := .f32) oM zero2 inb_S2048x1024_S2048x1024_0_0 shapeCasts_S2048x1024_S2048x1024 B
  have e6 := load_all (F := F) (e := .bf16) xM zero2 inb_S2048x512_S2048x512_0_0 shapeCasts_S2048x512_S2048x512 x
  rw [e1, e2, e3, e4, e5, e6]
  rfl

section Loops

variable (arg7 arg8 arg9 arg10 : DmaSems sig S8) (arg11 arg12 : Sems sig S_) (d0 : Dev nD) (v2 v5 v10 v16 : BitVec 32)

/-- The loops' bodies at the kernel's buffers. -/
abbrev body1 : Fin k0_t1_loop.trips → Unit → Prog (TpuEff nD τ sig (Elt F) Λ₀ .tc) Unit :=
  k0_t1_body xM (Memref.isWhole_whole _) wM (Memref.isWhole_whole _) iM (Memref.isWhole_whole _) eM (Memref.isWhole_whole _)
    oM (Memref.isWhole_whole _) (ringM true) (Memref.isWhole_whole _) (ringM false) (Memref.isWhole_whole _) arg7 arg8 arg9 arg10 arg11 arg12 d0 v2 v10 v16
abbrev body2 : Fin k0_t2_loop.trips → Unit → Prog (TpuEff nD τ sig (Elt F) Λ₀ .tc) Unit :=
  k0_t2_body xM (Memref.isWhole_whole _) wM (Memref.isWhole_whole _) iM (Memref.isWhole_whole _) eM (Memref.isWhole_whole _)
    oM (Memref.isWhole_whole _) (ringM true) (Memref.isWhole_whole _) (ringM false) (Memref.isWhole_whole _) arg7 arg8 arg9 arg10 arg11 arg12 d0 v2 v10 v16
abbrev body4 (t : Fin k0_t3_loop.trips) : Fin k0_t4_loop.trips → Unit → Prog (TpuEff nD τ sig (Elt F) Λ₀ .tc) Unit :=
  k0_t4_body xM (Memref.isWhole_whole _) wM (Memref.isWhole_whole _) iM (Memref.isWhole_whole _) eM (Memref.isWhole_whole _)
    oM (Memref.isWhole_whole _) (ringM true) (Memref.isWhole_whole _) (ringM false) (Memref.isWhole_whole _) arg7 arg8 arg9 arg10 arg11 arg12 v5 t
abbrev body5 (t : Fin k0_t3_loop.trips) : Fin k0_t5_loop.trips → Unit → Prog (TpuEff nD τ sig (Elt F) Λ₀ .tc) Unit :=
  k0_t5_body xM (Memref.isWhole_whole _) wM (Memref.isWhole_whole _) iM (Memref.isWhole_whole _) eM (Memref.isWhole_whole _)
    oM (Memref.isWhole_whole _) (ringM true) (Memref.isWhole_whole _) (ringM false) (Memref.isWhole_whole _) arg7 arg8 arg9 arg10 arg11 arg12 v5 t

variable (c : Dev nD) (x : Vec F S2048x512 .bf16) (idx : Vec F S2048x2 .i32) (w : Vec F S2048x2 .f32) (A : FVec F S2048x1024 .f32)

/-- The device's own first four experts, -/
theorem wp_own_true (hv : v2 = BitVec.ofNat 32 c.val) (q : PosShare TreeShare) (f : Oct F)
    {α : Type} {kk : Unit → Prog (TpuEff nD τ sig (Elt F) Λ₀ .tc) α} {Q : α → sProp 𝕄} :
    iprop(comp c x idx w A ∗ (eM.view.loc (c : Thread nD τ) ↦{q} f))
      ⊢ iprop((iprop(comp c x idx w (four x idx w (base true 0 c) (half true f) A 4) ∗ (eM.view.loc (c : Thread nD τ) ↦{q} f))
          -∗ wp frame (wpE (defs₀ (F := F)) 𝒱₀ (c : Thread nD τ) none) Set.univ (kk ()) Q)
        -∗ wp frame (wpE (defs₀ (F := F)) 𝒱₀ (c : Thread nD τ) none) Set.univ
            (Scf.Loop.for k0_t1_loop k0_t1_ok () (body1 arg7 arg8 arg9 arg10 arg11 arg12 d0 v2 v10 v16) >>= kk) Q) :=
  wp_four c k0_t1_loop k0_t1_ok trips1 eM
    (fun k => (Rect.unit (s := S8x512x1024) (k0_off1 k) S1x512x1024.size (k0_off1_inb k)).toLoadRect) (fun k => View.loadsAt_vmem h_S1x512x1024)
    (fun k => k0_pay4 v2 k) _ (fun k => rfl) x idx w (base true 0 c) (half true f) A (fun _ => Finset.subset_univ _)
    (fun k B => by
      have hk : k.val < 4 := Nat.lt_of_lt_of_eq k.isLt trips1
      exact pay_eq x idx w B (word_own c v2 hv k.val hk) (load_own true k.val hk (k0_off1_eq k) _ _ f))

/-- its other four, -/
theorem wp_own_false (hv : v2 = BitVec.ofNat 32 c.val) (q : PosShare TreeShare) (f : Oct F)
    {α : Type} {kk : Unit → Prog (TpuEff nD τ sig (Elt F) Λ₀ .tc) α} {Q : α → sProp 𝕄} :
    iprop(comp c x idx w A ∗ (eM.view.loc (c : Thread nD τ) ↦{q} f))
      ⊢ iprop((iprop(comp c x idx w (four x idx w (base false 0 c) (half false f) A 4) ∗ (eM.view.loc (c : Thread nD τ) ↦{q} f))
          -∗ wp frame (wpE (defs₀ (F := F)) 𝒱₀ (c : Thread nD τ) none) Set.univ (kk ()) Q)
        -∗ wp frame (wpE (defs₀ (F := F)) 𝒱₀ (c : Thread nD τ) none) Set.univ
            (Scf.Loop.for k0_t2_loop k0_t2_ok () (body2 arg7 arg8 arg9 arg10 arg11 arg12 d0 v2 v10 v16) >>= kk) Q) :=
  wp_four c k0_t2_loop k0_t2_ok trips2 eM
    (fun k => (Rect.unit (s := S8x512x1024) (k0_off2 k) S1x512x1024.size (k0_off2_inb k)).toLoadRect) (fun k => View.loadsAt_vmem h_S1x512x1024)
    (fun k => k0_pay5 v2 k) _ (fun k => rfl) x idx w (base false 0 c) (half false f) A (fun _ => Finset.subset_univ _)
    (fun k B => by
      have hk : k.val < 4 := Nat.lt_of_lt_of_eq k.isLt trips2
      exact pay_eq x idx w B (word_own' c v2 hv k.val hk) (load_own false k.val hk (k0_off2_eq k) _ _ f))

/-- the four held by the clockwise stream, -/
theorem wp_held_true (hv : v5 = BitVec.ofNat 32 (swap c.val)) (t : Fin k0_t3_loop.trips) (q : PosShare TreeShare) (X : Quad F)
    {α : Type} {kk : Unit → Prog (TpuEff nD τ sig (Elt F) Λ₀ .tc) α} {Q : α → sProp 𝕄} :
    iprop(comp c x idx w A ∗ slot q true (par (t.val + 1)) c X)
      ⊢ iprop((iprop(comp c x idx w (four x idx w (base true (t.val + 1) c) X A 4) ∗ slot q true (par (t.val + 1)) c X)
          -∗ wp frame (wpE (defs₀ (F := F)) 𝒱₀ (c : Thread nD τ) none) Set.univ (kk ()) Q)
        -∗ wp frame (wpE (defs₀ (F := F)) 𝒱₀ (c : Thread nD τ) none) Set.univ
            (Scf.Loop.for k0_t4_loop k0_t4_ok () (body4 arg7 arg8 arg9 arg10 arg11 arg12 v5 t) >>= kk) Q) := by
  have ht : t.val < 7 := Nat.lt_of_lt_of_eq t.isLt trips3
  unfold slot owns
  iintro ⟨HC, %f, %hf, HW⟩ Hk
  subst hf
  iapply (wp_four c k0_t4_loop k0_t4_ok trips4 (ringM true)
    (fun k => (Rect.unit (s := S2x4x512x1024) (k0_off6 t k) S1x1x512x1024.size (k0_off6_inb t k)).toLoadRect) (fun k => View.loadsAt_vmem h_S1x1x512x1024)
    (fun k => k0_pay1 v5 t k) _ (fun k => rfl) x idx w (base true (t.val + 1) c) ((slotM true (par (t.val + 1))).view.read (Elt F) f) A
    (fun k => slot_covers true (par (t.val + 1)) k.val (Nat.lt_of_lt_of_eq k.isLt trips4) (k0_off6_eq t k) _)
    (fun k B => by
      have hk : k.val < 4 := Nat.lt_of_lt_of_eq k.isLt trips4
      exact pay_eq x idx w B (word_cw c v5 hv t.val k.val ht hk) (load_slot true (par (t.val + 1)) k.val hk (k0_off6_eq t k) _ _ f))) $$ [HC HW]
  · isplitl [HC]; · iexact HC
    iexact HW
  iintro ⟨HC, HW⟩
  iapply Hk
  isplitl [HC]; · iexact HC
  iexists f
  isplitr; · ipureintro; rfl
  iexact HW

/-- and the four held by the counter-clockwise one. -/
theorem wp_held_false (hv : v5 = BitVec.ofNat 32 (swap c.val)) (t : Fin k0_t3_loop.trips) (q : PosShare TreeShare) (X : Quad F)
    {α : Type} {kk : Unit → Prog (TpuEff nD τ sig (Elt F) Λ₀ .tc) α} {Q : α → sProp 𝕄} :
    iprop(comp c x idx w A ∗ slot q false (par (t.val + 1)) c X)
      ⊢ iprop((iprop(comp c x idx w (four x idx w (base false (t.val + 1) c) X A 4) ∗ slot q false (par (t.val + 1)) c X)
          -∗ wp frame (wpE (defs₀ (F := F)) 𝒱₀ (c : Thread nD τ) none) Set.univ (kk ()) Q)
        -∗ wp frame (wpE (defs₀ (F := F)) 𝒱₀ (c : Thread nD τ) none) Set.univ
            (Scf.Loop.for k0_t5_loop k0_t5_ok () (body5 arg7 arg8 arg9 arg10 arg11 arg12 v5 t) >>= kk) Q) := by
  have ht : t.val < 7 := Nat.lt_of_lt_of_eq t.isLt trips3
  unfold slot owns
  iintro ⟨HC, %f, %hf, HW⟩ Hk
  subst hf
  iapply (wp_four c k0_t5_loop k0_t5_ok trips5 (ringM false)
    (fun k => (Rect.unit (s := S2x4x512x1024) (k0_off7 t k) S1x1x512x1024.size (k0_off7_inb t k)).toLoadRect) (fun k => View.loadsAt_vmem h_S1x1x512x1024)
    (fun k => k0_pay2 v5 t k) _ (fun k => rfl) x idx w (base false (t.val + 1) c) ((slotM false (par (t.val + 1))).view.read (Elt F) f) A
    (fun k => slot_covers false (par (t.val + 1)) k.val (Nat.lt_of_lt_of_eq k.isLt trips5) (k0_off7_eq t k) _)
    (fun k B => by
      have hk : k.val < 4 := Nat.lt_of_lt_of_eq k.isLt trips5
      exact pay_eq x idx w B (word_ccw c v5 hv t.val k.val ht hk) (load_slot false (par (t.val + 1)) k.val hk (k0_off7_eq t k) _ _ f))) $$ [HC HW]
  · isplitl [HC]; · iexact HC
    iexact HW
  iintro ⟨HC, HW⟩
  iapply Hk
  isplitl [HC]; · iexact HC
  iexists f
  isplitr; · ipureintro; rfl
  iexact HW

end Loops

end Cert.MoeRing

end
-- ==== Proof.Hop.lean ====
/-
# One hop

The body of the hop loop at a hop that still transfers: the two credits awaited, the two transfers sent on, the eight
experts held added to the result, the transfers awaited, and the two credits given.
-/
module

public import proofs.«01_k».proof.Proof.Moves
public import proofs.«01_k».proof.Proof.Trips
public import Idealize.ShloMosaic.Lib.MemrefSat

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What is owed within a hop -/

/-- What a device owes between a hop's sends and its credits. -/
def mid (c : Dev nD) (h : ℕ) : CellTallies nD τ sig ℕ :=
  if h < 6 then (due c (h + 1) + tallyAt (cell (nbr true c) (.cred false)) h 1) + tallyAt (cell (nbr false c) (.cred true)) h 1
  else due c (h + 1)

theorem Ico_peel {h n : ℕ} (hh : h < n) : Finset.Ico h n = insert h (Finset.Ico (h + 1) n) := by
  ext i; rw [Finset.mem_insert, Finset.mem_Ico, Finset.mem_Ico]; omega
theorem not_mem_peel (h n : ℕ) : h ∉ Finset.Ico (h + 1) n := fun hm => by rw [Finset.mem_Ico] at hm; omega

theorem sort6 {M : Type} [AddCommMonoid M] (a b s d e t : M) : ((a + b) + s) + ((d + e) + t) = ((((s + t) + e) + d) + b) + a := by
  ac_rfl
theorem sort4 {M : Type} [AddCommMonoid M] (a b s t : M) : ((a + b) + s) + t = ((s + t) + b) + a := by ac_rfl

theorem due_eq (c : Dev nD) (h : ℕ) (hh : h < 7) :
    due c h = (mid c h + tallyAt (cell (nbr false c) (.recv false h)) 0 N) + tallyAt (cell (nbr true c) (.recv true h)) 0 N := by
  unfold mid due
  rw [Ico_peel hh, Finset.sum_insert (not_mem_peel h 7)]
  split
  · next h6 =>
    rw [Ico_peel h6, Finset.sum_insert (not_mem_peel h 6)]
    exact sort6 _ _ _ _ _ _
  · next h6 =>
    rw [Finset.Ico_eq_empty (show ¬ h < 6 from h6), Finset.Ico_eq_empty (show ¬ h + 1 < 6 by omega), Finset.sum_empty]
    exact sort4 _ _ _ _

theorem due_end (c : Dev nD) (h : ℕ) (hh : 7 ≤ h) : due c h = 0 := by
  unfold due
  rw [Finset.Ico_eq_empty (by omega), Finset.Ico_eq_empty (by omega), Finset.sum_empty, Finset.sum_empty, add_zero]

theorem mid_above {c : Dev nD} {h : ℕ} {g : GSem nD τ sig} {j : ℕ} (hp : 0 < mid c h g j) : j ∈ L g ∧ 2 * h + 2 < lv g j := by
  unfold mid at hp
  have hd : 0 < due c (h + 1) g j → j ∈ L g ∧ 2 * h + 2 < lv g j := fun hq => ⟨(due_above hq).1, by have := (due_above hq).2; omega⟩
  split at hp
  · next h6 =>
    rw [Pi.add_apply, Finsupp.add_apply, Pi.add_apply, Finsupp.add_apply] at hp
    rcases pos_add hp with hp | hp
    · rcases pos_add hp with hp | hp
      · exact hd hp
      · obtain ⟨rfl, rfl⟩ := Pipeline.tallyAt_pos hp
        exact ⟨mem_L _ _ h6, by rw [lv_cell _ (.cred false) trivial]; show _ < 2 * _ + 3; omega⟩
    · obtain ⟨rfl, rfl⟩ := Pipeline.tallyAt_pos hp
      exact ⟨mem_L _ _ h6, by rw [lv_cell _ (.cred true) trivial]; show _ < 2 * _ + 3; omega⟩
  · exact hd hp

/-- After the first of a hop's two sends too everything owed sits above the hop's level. -/
theorem rest_above {c : Dev nD} {h : ℕ} (hh : h < 7) {g : GSem nD τ sig} {j : ℕ}
    (hp : 0 < (mid c h + tallyAt (cell (nbr false c) (.recv false h)) 0 N : CellTallies nD τ sig ℕ) g j) : j ∈ L g ∧ 2 * h + 1 < lv g j :=
  due_above (by rw [due_eq c h hh, Pi.add_apply, Finsupp.add_apply]; exact Nat.add_pos_left hp _)

/-! ## Shares of a slot -/

omit [FloatOps F] in
theorem slot_halves (b : Bool) (s : Fin 2) (c : Dev nD) (X : Quad F) :
    slot fullShare b s c X ⊣⊢ iprop(slot fullShare.left b s c X ∗ slot fullShare.right b s c X) := owns_halves (c : Thread nD τ) (slotM b s) fullShare X

section Hop

variable (ew : Dev nD → Oct F) (κ : GSem nD τ sig → ℕ)

/-- What a device holds of one transfer's two semaphores. -/
def tickets (b : Bool) (h : ℕ) (c : Dev nD) : sProp 𝕄 :=
  iprop(atPos ER (cell c (.send b h)) 0 ∅ 0 ∗ reached ER (cell c (.send b h)) 0 ∗ dutyTok ER (cell c (.send b h)) 0 false
    ∗ atPos ER (cell c (.recv b h)) 0 ∅ 0 ∗ cred (tallyAt (cell c (.recv b h)) 0 N) ∗ dutyTok ER (cell (nbr b c) (.recv b h)) 0 false)

/-- What direction `b` takes into hop `t + 1`. -/
def before (b : Bool) (t : ℕ) (c : Dev nD) : sProp 𝕄 :=
  iprop(slot fullShare b (par (t + 1)) c (held ew b (t + 1) c) ∗ atPos ER (cell c (.cred b)) t ∅ 0
    ∗ cred (tallyAt (cell c (.cred b)) t 1) ∗ tickets b (t + 1) c
    ∗ (if t + 1 < 6 then dutyTok ER (cell (nbr (!b) c) (.cred b)) (t + 1) false else emp))

/-- What it brings out of it. -/
def after (b : Bool) (t : ℕ) (c : Dev nD) : sProp 𝕄 :=
  iprop(slot fullShare b (par (t + 2)) c (held ew b (t + 2) c) ∗ atPos ER (cell c (.cred b)) (t + 1) ∅ 0
    ∗ (semVal (cell c (.send b (t + 1))) 0 ∗ semVal (cell c (.recv b (t + 1))) 0)
    ∗ (if t + 1 < 6 then emp else anySlot b (par (t + 1)) c))

theorem par_add_two (t : ℕ) : par (t + 2) = par t := Fin.ext (show (t + 2) % 2 = t % 2 by omega)

theorem lent_slot (b : Bool) (t : ℕ) (c : Dev nD) :
    slot fullShare.left b (par (t + 1)) c (held ew b (t + 1) c) = lent ew b (t + 1) c := (if_neg (Nat.succ_ne_zero t)).symm
theorem lent_join (b : Bool) (t : ℕ) (c : Dev nD) :
    iprop(lent ew b (t + 1) c ∗ slot fullShare.right b (par (t + 1)) c (held ew b (t + 1) c)) ⊢ anySlot b (par (t + 1)) c := by
  rw [← lent_slot]
  unfold anySlot
  iintro H
  iexists (held ew b (t + 1) c)
  iapply (slot_halves b (par (t + 1)) c _).2; iexact H

theorem ready_recv (b : Bool) (e : Dev nD) (h : ℕ) (hh : h < 7) : ready (F := F) b e ⊢ reached ER (cell e (.recv b h)) 0 := by
  have key : (bigSep (Finset.range 7) fun h => (reached ER (cell e (.recv b h)) 0 : sProp 𝕄)) ⊢ reached ER (cell e (.recv b h)) 0 :=
    bigSep_elim (Finset.mem_range.mpr hh)
  unfold ready
  iintro ⟨#H, -⟩
  iapply key; iexact H

theorem cond1_of : ∀ t : Fin k0_t3_loop.trips, t.val < 6 → k0_cond1 t = 1#1 := by decide
theorem cond2_of : ∀ t : Fin k0_t3_loop.trips, t.val < 6 → k0_cond2 t = 1#1 := by decide
theorem cond3_of : ∀ t : Fin k0_t3_loop.trips, t.val < 5 → k0_cond3 t = 1#1 := by decide
theorem not_cond1 : ∀ t : Fin k0_t3_loop.trips, ¬ t.val < 6 → ¬ k0_cond1 t = 1#1 := by decide
theorem not_cond2 : ∀ t : Fin k0_t3_loop.trips, ¬ t.val < 6 → ¬ k0_cond2 t = 1#1 := by decide
theorem not_cond3 : ∀ t : Fin k0_t3_loop.trips, ¬ t.val < 5 → ¬ k0_cond3 t = 1#1 := by decide

theorem par_succ (h : ℕ) : (par (h + 1)).val = 1 - h % 2 := by show (h + 1) % 2 = _; omega
theorem off4_par (t : Fin k0_t3_loop.trips) : k0_off4 t = ![(par (t.val + 2)).val, 0, 0, 0] := by
  rw [par_succ (t.val + 1)]; exact k0_off4_eq t
theorem off10_par (t : Fin k0_t3_loop.trips) : k0_off10 t = ![(par (t.val + 2)).val, 0, 0, 0] := by
  rw [par_succ (t.val + 1)]; exact k0_off10_eq t

/-- The hop loop's body at the kernel's buffers and semaphores. -/
abbrev body3 (d0 : Dev nD) (v5 v10 v16 : BitVec 32) : Fin k0_t3_loop.trips → Unit → Prog (TpuEff nD τ sig (Elt F) Λ₀ .tc) Unit :=
  k0_t3_body xM (Memref.isWhole_whole _) wM (Memref.isWhole_whole _) iM (Memref.isWhole_whole _) eM (Memref.isWhole_whole _)
    oM (Memref.isWhole_whole _) (ringM true) (Memref.isWhole_whole _) (ringM false) (Memref.isWhole_whole _)
    cc0_scratch2 cc0_scratch3 cc0_scratch4 cc0_scratch5 cc0_scratch6 cc0_scratch7 d0 v5 v10 v16

variable (c : Dev nD) (x : Vec F S2048x512 .bf16) (idx : Vec F S2048x2 .i32) (w : Vec F S2048x2 .f32) (A : FVec F S2048x1024 .f32)

/-- A hop that transfers. -/
theorem wp_hop (v5 v10 v16 : BitVec 32) (hv : v5 = BitVec.ofNat 32 (swap c.val)) (t : Fin k0_t3_loop.trips) (ht : t.val < 6) :
    iprop(env ew κ ∗ (ready true (nbr true c) ∗ ready false (nbr false c)) ∗ comp c x idx w A ∗ owing c (due c (t.val + 1))
        ∗ before ew true t.val c ∗ before ew false t.val c)
      ⊢ wp frame (wpE (defs₀ (F := F)) 𝒱₀ (c : Thread nD τ) none) Set.univ (body3 c v5 v10 v16 t ())
          fun _ => iprop(comp c x idx w (four x idx w (base false (t.val + 1) c) (held ew false (t.val + 1) c)
              (four x idx w (base true (t.val + 1) c) (held ew true (t.val + 1) c) A 4) 4)
            ∗ owing c (due c (t.val + 2)) ∗ after ew true t.val c ∗ after ew false t.val c) := by
  have h7 : t.val + 1 < 7 := by omega
  unfold body3 k0_t3_body
  rw [dif_pos (cond1_of t ht), dif_pos (cond2_of t ht)]
  simp only [k0_part1_eq_skeleton]
  unfold k0_part1_skel
  simp only [semSignalWord, semWaitWord, Prog.lift, Prog.bind_op, Prog.bind_ret, Prog.pure_eq_ret, Prog.bind_assoc]
  unfold before tickets
  iintro ⟨#HE, ⟨#HrT, #HrF⟩, HC, HO, ⟨HsT, HaT, HcT, ⟨HsaT, #HsrT, HstT, HraT, HrcT, HrtT⟩, HdT⟩,
    ⟨HsF, HaF, HcF, ⟨HsaF, #HsrF, HstF, HraF, HrcF, HrtF⟩, HdF⟩⟩
  ihave HsT' := (slot_halves true (par (t.val + 1)) c _).1 $$ HsT
  icases HsT' with ⟨HlT, HsT⟩
  ihave HsF' := (slot_halves false (par (t.val + 1)) c _).1 $$ HsF
  icases HsF' with ⟨HlF, HsF⟩
  -- the clockwise credit and transfer
  iapply (wp_credit_wait ew κ c true t.val ht (s := cc0_scratch6.sem) rfl (O := due c (t.val + 1))
    (fun g j h => ⟨(due_above h).1, by have := (due_above h).2; omega⟩)) $$ [HcT HO HaT]
  · isplitr; · iexact HE
    isplitl [HcT]; · iexact HcT
    isplitl [HO] <;> iassumption
  iintro ⟨HO, HaT, #HqT, HnT⟩
  iapply (wp_send ew κ c _ true (t.val + 1) h7 (dev7_eq c t (cond1_of t ht)) (sendA_sem true (t.val + 1) (by omega) (k0_off3_eq t) _)
    (recvA_sem true (t.val + 1) (by omega) (k0_off3_eq t) _) (slotM_eq true (par (t.val + 1)) (k0_off5_eq t) _)
    (slotM_eq true (par (t.val + 2)) (off4_par t) _) (mid c (t.val + 1) + tallyAt (cell (nbr false c) (.recv false (t.val + 1))) 0 N))
    $$ [HlT HnT HO HstT HrtT]
  · isplitr; · iexact HE
    isplitl [HlT]; · iapply (Entails.of_eq (lent_slot ew true t.val c)) $$ HlT
    isplitl [HnT]; · iapply (Entails.of_eq (congrArg (fun s => anySlot true s (nbr true c)) (par_add_two t.val).symm)) $$ HnT
    isplitr; · iexact HqT
    isplitl [HO]; · iapply (Entails.of_eq (congrArg (owing c) (due_eq c (t.val + 1) h7))) $$ HO
    isplitl [HstT]; · iexact HstT
    isplitr; · iexact HsrT
    isplitl [HrtT]; · iexact HrtT
    iapply (ready_recv true (nbr true c) (t.val + 1) h7); iexact HrT
  iintro ⟨HscT, HO⟩
  -- the counter-clockwise credit and transfer
  iapply (wp_credit_wait ew κ c false t.val ht (s := cc0_scratch7.sem) rfl
    (O := mid c (t.val + 1) + tallyAt (cell (nbr false c) (.recv false (t.val + 1))) 0 N)
    (fun g j h => ⟨(rest_above h7 h).1, by have := (rest_above h7 h).2; omega⟩)) $$ [HcF HO HaF]
  · isplitr; · iexact HE
    isplitl [HcF]; · iexact HcF
    isplitl [HO] <;> iassumption
  iintro ⟨HO, HaF, #HqF, HnF⟩
  iapply (wp_send ew κ c _ false (t.val + 1) h7 (dev8_eq c t (cond1_of t ht)) (sendA_sem false (t.val + 1) (by omega) (k0_off3_eq t) _)
    (recvA_sem false (t.val + 1) (by omega) (k0_off3_eq t) _) (slotM_eq false (par (t.val + 1)) (k0_off5_eq t) _)
    (slotM_eq false (par (t.val + 2)) (off4_par t) _) (mid c (t.val + 1)))
    $$ [HlF HnF HO HstF HrtF]
  · isplitr; · iexact HE
    isplitl [HlF]; · iapply (Entails.of_eq (lent_slot ew false t.val c)) $$ HlF
    isplitl [HnF]; · iapply (Entails.of_eq (congrArg (fun s => anySlot false s (nbr false c)) (par_add_two t.val).symm)) $$ HnF
    isplitr; · iexact HqF
    isplitl [HO]; · iexact HO
    isplitl [HstF]; · iexact HstF
    isplitr; · iexact HsrF
    isplitl [HrtF]; · iexact HrtF
    iapply (ready_recv false (nbr false c) (t.val + 1) h7); iexact HrF
  iintro ⟨HscF, HO⟩
  -- the experts held
  iapply (wp_held_true cc0_scratch2 cc0_scratch3 cc0_scratch4 cc0_scratch5 cc0_scratch6 cc0_scratch7 v5 c x idx w A hv t
    fullShare.right (held ew true (t.val + 1) c)) $$ [HC HsT]
  · isplitl [HC] <;> iassumption
  iintro ⟨HC, HsT⟩
  iapply (wp_held_false cc0_scratch2 cc0_scratch3 cc0_scratch4 cc0_scratch5 cc0_scratch6 cc0_scratch7 v5 c x idx w _ hv t
    fullShare.right (held ew false (t.val + 1) c)) $$ [HC HsF]
  · isplitl [HC] <;> iassumption
  iintro ⟨HC, HsF⟩
  -- the transfers awaited
  iapply (wp_wait_send ew κ c true (t.val + 1) h7 (sendA_sem true (t.val + 1) (by omega) (k0_off8_eq t) _)
    ((congrArg (fun M : Memref sig .tc .vmem S4x512x1024 .bf16 => M.view.dmaCredit) (slotM_eq true (par (t.val + 1)) (k0_off9_eq t) _)).trans (N_slot _ _))
    (O := mid c (t.val + 1)) (fun g j h => ⟨(mid_above h).1, Nat.lt_of_le_of_lt (Nat.zero_le _) (mid_above h).2⟩)) $$ [HscT HO HsaT]
  · isplitr; · iexact HE
    isplitl [HscT]; · iexact HscT
    isplitl [HO] <;> iassumption
  iintro ⟨HO, HzsT, HlT⟩
  iapply (wp_wait_recv ew κ c true (t.val + 1) h7 (recvA_sem true (t.val + 1) (by omega) (k0_off8_eq t) _)
    ((congrArg (fun M : Memref sig .tc .vmem S4x512x1024 .bf16 => M.view.dmaCredit) (slotM_eq true (par (t.val + 2)) (off10_par t) _)).trans (N_slot _ _))
    (O := mid c (t.val + 1)) (fun g j h => mid_above h)) $$ [HrcT HO HraT]
  · isplitr; · iexact HE
    isplitl [HrcT]; · iexact HrcT
    isplitl [HO] <;> iassumption
  iintro ⟨HO, HzrT, HnT⟩
  iapply (wp_wait_send ew κ c false (t.val + 1) h7 (sendA_sem false (t.val + 1) (by omega) (k0_off8_eq t) _)
    ((congrArg (fun M : Memref sig .tc .vmem S4x512x1024 .bf16 => M.view.dmaCredit) (slotM_eq false (par (t.val + 1)) (k0_off9_eq t) _)).trans (N_slot _ _))
    (O := mid c (t.val + 1)) (fun g j h => ⟨(mid_above h).1, Nat.lt_of_le_of_lt (Nat.zero_le _) (mid_above h).2⟩)) $$ [HscF HO HsaF]
  · isplitr; · iexact HE
    isplitl [HscF]; · iexact HscF
    isplitl [HO] <;> iassumption
  iintro ⟨HO, HzsF, HlF⟩
  iapply (wp_wait_recv ew κ c false (t.val + 1) h7 (recvA_sem false (t.val + 1) (by omega) (k0_off8_eq t) _)
    ((congrArg (fun M : Memref sig .tc .vmem S4x512x1024 .bf16 => M.view.dmaCredit) (slotM_eq false (par (t.val + 2)) (off10_par t) _)).trans (N_slot _ _))
    (O := mid c (t.val + 1)) (fun g j h => mid_above h)) $$ [HrcF HO HraF]
  · isplitr; · iexact HE
    isplitl [HrcF]; · iexact HrcF
    isplitl [HO] <;> iassumption
  iintro ⟨HO, HzrF, HnF⟩
  -- the slots sent from are whole again
  ihave HT := (show iprop(lent ew true (t.val + 1) c ∗ slot fullShare.right true (par (t.val + 1)) c (held ew true (t.val + 1) c))
    ⊢ anySlot true (par (t.val + 1)) c from lent_join ew true t.val c) $$ [HlT HsT]
  · isplitl [HlT] <;> iassumption
  ihave HF := (show iprop(lent ew false (t.val + 1) c ∗ slot fullShare.right false (par (t.val + 1)) c (held ew false (t.val + 1) c))
    ⊢ anySlot false (par (t.val + 1)) c from lent_join ew false t.val c) $$ [HlF HsF]
  · isplitl [HlF] <;> iassumption
  unfold landed
  icases HnT with ⟨HnT, #HgT⟩
  icases HnF with ⟨HnF, #HgF⟩
  unfold after
  by_cases h5 : t.val < 5
  · have h6 : t.val + 1 < 6 := by omega
    rw [dif_pos (cond3_of t h5)]
    simp only [Prog.bind_op, Prog.bind_ret, if_pos h6]
    -- the two credits
    iapply (wp_credit_signal ew κ c _ true (t.val + 1) h6 (dev9_eq c t (cond3_of t h5)) (s := cc0_scratch6.sem) rfl
      (due c (t.val + 2) + tallyAt (cell (nbr true c) (.cred false)) (t.val + 1) 1)) $$ [HO HdT HT]
    · isplitr; · iexact HE
      isplitl [HO]; · iapply (Entails.of_eq (congrArg (owing c) (show mid c (t.val + 1) = _ from if_pos h6))) $$ HO
      isplitl [HdT]; · iexact HdT
      isplitl [HT]; · iexact HT
      iexact HgT
    iintro HO
    iapply (wp_credit_signal ew κ c _ false (t.val + 1) h6 (dev10_eq c t (cond3_of t h5)) (s := cc0_scratch7.sem) rfl
      (due c (t.val + 2))) $$ [HO HdF HF]
    · isplitr; · iexact HE
      isplitl [HO]; · iexact HO
      isplitl [HdF]; · iexact HdF
      isplitl [HF]; · iexact HF
      iexact HgF
    iintro HO
    rw [wp_ret]
    imodintro
    isplitl [HC]; · iexact HC
    isplitl [HO]; · iexact HO
    isplitl [HnT HaT HzsT HzrT]
    · isplitl [HnT]; · iexact HnT
      isplitl [HaT]; · iexact HaT
      isplitl [HzsT HzrT]
      · isplitl [HzsT] <;> iassumption
      iempintro
    · isplitl [HnF]; · iexact HnF
      isplitl [HaF]; · iexact HaF
      isplitl [HzsF HzrF]
      · isplitl [HzsF] <;> iassumption
      iempintro
  · have h6 : ¬ t.val + 1 < 6 := by omega
    rw [dif_neg (not_cond3 t h5)]
    simp only [Prog.bind_ret, if_neg h6]
    rw [wp_ret]
    imodintro
    isplitl [HC]; · iexact HC
    isplitl [HO]; · iapply (Entails.of_eq (congrArg (owing c) (show mid c (t.val + 1) = _ from if_neg h6))) $$ HO
    isplitl [HnT HaT HzsT HzrT HT]
    · isplitl [HnT]; · iexact HnT
      isplitl [HaT]; · iexact HaT
      isplitl [HzsT HzrT]
      · isplitl [HzsT] <;> iassumption
      iexact HT
    · isplitl [HnF]; · iexact HnF
      isplitl [HaF]; · iexact HaF
      isplitl [HzsF HzrF]
      · isplitl [HzsF] <;> iassumption
      iexact HF

/-- The last hop: only the experts held. -/
theorem wp_last (v5 v10 v16 : BitVec 32) (hv : v5 = BitVec.ofNat 32 (swap c.val)) (t : Fin k0_t3_loop.trips) (ht : ¬ t.val < 6) :
    iprop(comp c x idx w A ∗ slot fullShare true (par (t.val + 1)) c (held ew true (t.val + 1) c)
        ∗ slot fullShare false (par (t.val + 1)) c (held ew false (t.val + 1) c))
      ⊢ wp frame (wpE (defs₀ (F := F)) 𝒱₀ (c : Thread nD τ) none) Set.univ (body3 c v5 v10 v16 t ())
          fun _ => iprop(comp c x idx w (four x idx w (base false (t.val + 1) c) (held ew false (t.val + 1) c)
              (four x idx w (base true (t.val + 1) c) (held ew true (t.val + 1) c) A 4) 4)
            ∗ slot fullShare true (par (t.val + 1)) c (held ew true (t.val + 1) c)
            ∗ slot fullShare false (par (t.val + 1)) c (held ew false (t.val + 1) c)) := by
  unfold body3 k0_t3_body
  rw [dif_neg (not_cond1 t ht), dif_neg (not_cond2 t ht), dif_neg (not_cond3 t (fun h => ht (by omega)))]
  simp only [Prog.lift, Prog.bind_op, Prog.bind_ret, Prog.pure_eq_ret, Prog.bind_assoc]
  iintro ⟨HC, HsT, HsF⟩
  iapply (wp_held_true cc0_scratch2 cc0_scratch3 cc0_scratch4 cc0_scratch5 cc0_scratch6 cc0_scratch7 v5 c x idx w A hv t
    fullShare (held ew true (t.val + 1) c)) $$ [HC HsT]
  · isplitl [HC] <;> iassumption
  iintro ⟨HC, HsT⟩
  iapply (wp_held_false cc0_scratch2 cc0_scratch3 cc0_scratch4 cc0_scratch5 cc0_scratch6 cc0_scratch7 v5 c x idx w _ hv t
    fullShare (held ew false (t.val + 1) c)) $$ [HC HsF]
  · isplitl [HC] <;> iassumption
  iintro ⟨HC, HsF⟩
  rw [wp_ret]
  imodintro
  isplitl [HC]; · iexact HC
  isplitl [HsT] <;> iassumption

end Hop

end Cert.MoeRing

end
-- ==== Proof.HopLoop.lean ====
/-
# The hop loop

What each direction holds between hops, and the loop's seven hops from it.
-/
module

public import proofs.«01_k».proof.Proof.Hop

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Hops

variable (ew : Dev nD → Oct F) (κ : GSem nD τ sig → ℕ)

/-- What direction `b` holds after `j` hops of the loop. -/
def side (b : Bool) (j : ℕ) (c : Dev nD) : sProp 𝕄 :=
  iprop(slot fullShare b (par (j + 1)) c (held ew b (j + 1) c) ∗ atPos ER (cell c (.cred b)) j ∅ 0
    ∗ (bigSep (Finset.Ico (j + 1) 7) fun h => tickets b h c)
    ∗ (bigSep (Finset.Ico j 6) fun r => cred (tallyAt (cell c (.cred b)) r 1))
    ∗ (bigSep (Finset.Ico (j + 1) 6) fun r => dutyTok ER (cell (nbr (!b) c) (.cred b)) r false)
    ∗ (bigSep (Finset.range (j + 1)) fun h => iprop(semVal (cell c (.send b h)) 0 ∗ semVal (cell c (.recv b h)) 0))
    ∗ (if j < 6 then emp else anySlot b (par j) c))

/-- What of it the next hop does not touch. -/
def spare (b : Bool) (j : ℕ) (c : Dev nD) : sProp 𝕄 :=
  iprop((bigSep (Finset.Ico (j + 2) 7) fun h => tickets b h c)
    ∗ (bigSep (Finset.Ico (j + 1) 6) fun r => cred (tallyAt (cell c (.cred b)) r 1))
    ∗ (bigSep (Finset.Ico (j + 2) 6) fun r => dutyTok ER (cell (nbr (!b) c) (.cred b)) r false)
    ∗ (bigSep (Finset.range (j + 1)) fun h => iprop(semVal (cell c (.send b h)) 0 ∗ semVal (cell c (.recv b h)) 0)))

omit [FloatOps F] in
theorem peel (Φ : ℕ → sProp 𝕄) {h n : ℕ} (hh : h < n) :
    bigSep (Finset.Ico h n) Φ ⊣⊢ iprop(Φ h ∗ bigSep (Finset.Ico (h + 1) n) Φ) := by
  rw [Ico_peel hh, BI.bigSep_insert (not_mem_peel h n)]
  constructor <;> exact Entails.of_eq rfl
omit [FloatOps F] in
theorem peel_if (Φ : ℕ → sProp 𝕄) (h n : ℕ) :
    bigSep (Finset.Ico h n) Φ ⊢ iprop((if h < n then Φ h else emp) ∗ bigSep (Finset.Ico (h + 1) n) Φ) := by
  split
  · next hh => exact (peel Φ hh).1
  · next hh =>
    rw [Finset.Ico_eq_empty hh, Finset.Ico_eq_empty (show ¬ h + 1 < n by omega)]
    iintro H
    isplitr; · iempintro
    iexact H
omit [FloatOps F] in
theorem range_succ (Φ : ℕ → sProp 𝕄) (n : ℕ) :
    bigSep (Finset.range (n + 1)) Φ = iprop(Φ n ∗ bigSep (Finset.range n) Φ) := by
  rw [Finset.range_add_one, BI.bigSep_insert (by rw [Finset.mem_range]; omega)]
  rfl

theorem side_take (b : Bool) (j : ℕ) (c : Dev nD) (hj : j < 6) : side ew b j c ⊢ iprop(before ew b j c ∗ spare (F := F) b j c) := by
  unfold side before spare
  iintro ⟨Hs, Ha, Ht, Hc, Hd, Hz, -⟩
  ihave Ht' := (peel (fun h => tickets (F := F) b h c) (show j + 1 < 7 by omega)).1 $$ Ht
  icases Ht' with ⟨Ht0, Ht⟩
  ihave Hc' := (peel (fun r => (cred (tallyAt (cell c (.cred b)) r 1) : sProp 𝕄)) hj).1 $$ Hc
  icases Hc' with ⟨Hc0, Hc⟩
  ihave Hd' := (peel_if (fun r => (dutyTok ER (cell (nbr (!b) c) (.cred b)) r false : sProp 𝕄)) (j + 1) 6) $$ Hd
  icases Hd' with ⟨Hd0, Hd⟩
  isplitl [Hs Ha Ht0 Hc0 Hd0]
  · isplitl [Hs]; · iexact Hs
    isplitl [Ha]; · iexact Ha
    isplitl [Hc0]; · iexact Hc0
    isplitl [Ht0]; · iexact Ht0
    iexact Hd0
  · isplitl [Ht]; · iexact Ht
    isplitl [Hc]; · iexact Hc
    isplitl [Hd]; · iexact Hd
    iexact Hz

theorem side_give (b : Bool) (j : ℕ) (c : Dev nD) : iprop(after ew b j c ∗ spare (F := F) b j c) ⊢ side ew b (j + 1) c := by
  unfold side after spare
  rw [range_succ _ (j + 1)]
  iintro ⟨⟨Hs, Ha, Hz0, Hx⟩, Ht, Hc, Hd, Hz⟩
  isplitl [Hs]; · iexact Hs
  isplitl [Ha]; · iexact Ha
  isplitl [Ht]; · iexact Ht
  isplitl [Hc]; · iexact Hc
  isplitl [Hd]; · iexact Hd
  isplitr [Hx]
  · isplitl [Hz0]; · iexact Hz0
    iexact Hz
  · iexact Hx

/-- The last hop touches only the slot. -/
theorem side_slot (b : Bool) (j : ℕ) (c : Dev nD) : side ew b j c
    ⊢ iprop(slot fullShare b (par (j + 1)) c (held ew b (j + 1) c) ∗ (slot fullShare b (par (j + 1)) c (held ew b (j + 1) c) -∗ side ew b j c)) := by
  unfold side
  iintro ⟨Hs, H⟩
  isplitl [Hs]; · iexact Hs
  iintro Hs
  isplitl [Hs]; · iexact Hs
  iexact H

variable (c : Dev nD) (x : Vec F S2048x512 .bf16) (idx : Vec F S2048x2 .i32) (w : Vec F S2048x2 .f32)

/-- What the loop holds before its trip `k`. -/
def between (k : ℕ) : sProp 𝕄 :=
  iprop(env ew κ ∗ (ready true (nbr true c) ∗ ready false (nbr false c)) ∗ comp c x idx w (outAfter x idx w ew c (k + 1))
    ∗ owing c (due c (k + 1)) ∗ side ew true (min k 6) c ∗ side ew false (min k 6) c)

theorem wp_pass (v5 v10 v16 : BitVec 32) (hv : v5 = BitVec.ofNat 32 (swap c.val)) (t : Fin k0_t3_loop.trips) :
    between ew κ c x idx w t.val ⊢ wp frame (wpE (defs₀ (F := F)) 𝒱₀ (c : Thread nD τ) none) Set.univ (body3 c v5 v10 v16 t ())
      fun _ => between ew κ c x idx w (t.val + 1) := by
  unfold between
  by_cases ht : t.val < 6
  · rw [Nat.min_eq_left (show t.val ≤ 6 by omega), Nat.min_eq_left (show t.val + 1 ≤ 6 by omega)]
    iintro ⟨#HE, #HR, HC, HO, HT, HF⟩
    ihave HT' := (side_take ew true t.val c ht) $$ HT
    icases HT' with ⟨HT, HsT⟩
    ihave HF' := (side_take ew false t.val c ht) $$ HF
    icases HF' with ⟨HF, HsF⟩
    iapply (wp_wand_r frame (wpE (defs₀ (F := F)) 𝒱₀ (c : Thread nD τ) none) Set.univ)
    isplitl [HC HO HT HF]
    · iapply (wp_hop ew κ c x idx w (outAfter x idx w ew c (t.val + 1)) v5 v10 v16 hv t ht)
      isplitr; · iexact HE
      isplitr; · iexact HR
      isplitl [HC]; · iexact HC
      isplitl [HO]; · iexact HO
      isplitl [HT]; · iexact HT
      iexact HF
    · iintro %_ ⟨HC, HO, HT, HF⟩
      isplitr; · iexact HE
      isplitr; · iexact HR
      isplitl [HC]; · iexact HC
      isplitl [HO]; · iexact HO
      isplitl [HT HsT]
      · iapply (side_give ew true t.val c)
        isplitl [HT]; · iexact HT
        iexact HsT
      · iapply (side_give ew false t.val c)
        isplitl [HF]; · iexact HF
        iexact HsF
  · have h6 : t.val = 6 := by have := Nat.lt_of_lt_of_eq t.isLt trips3; omega
    have hd : due c (t.val + 1) = due c (t.val + 1 + 1) := (due_end c _ (by omega)).trans (due_end c _ (by omega)).symm
    rw [Nat.min_eq_left (show t.val ≤ 6 by omega), show min (t.val + 1) 6 = t.val by omega, ← hd]
    iintro ⟨#HE, #HR, HC, HO, HT, HF⟩
    ihave HT' := (side_slot ew true t.val c) $$ HT
    icases HT' with ⟨HT, HsT⟩
    ihave HF' := (side_slot ew false t.val c) $$ HF
    icases HF' with ⟨HF, HsF⟩
    iapply (wp_wand_r frame (wpE (defs₀ (F := F)) 𝒱₀ (c : Thread nD τ) none) Set.univ)
    isplitl [HC HT HF]
    · iapply (wp_last ew c x idx w (outAfter x idx w ew c (t.val + 1)) v5 v10 v16 hv t ht)
      isplitl [HC]; · iexact HC
      isplitl [HT]; · iexact HT
      iexact HF
    · iintro %_ ⟨HC, HT, HF⟩
      isplitr; · iexact HE
      isplitr; · iexact HR
      isplitl [HC]; · iexact HC
      isplitl [HO]; · iexact HO
      isplitl [HT HsT]
      · iapply HsT; iexact HT
      · iapply HsF; iexact HF

/-- The hop loop. -/
theorem wp_hops (v5 v10 v16 : BitVec 32) (hv : v5 = BitVec.ofNat 32 (swap c.val))
    {α : Type} {kk : Unit → Prog (TpuEff nD τ sig (Elt F) Λ₀ .tc) α} {Q : α → sProp 𝕄} :
    between ew κ c x idx w 0
      ⊢ iprop((between ew κ c x idx w 7 -∗ wp frame (wpE (defs₀ (F := F)) 𝒱₀ (c : Thread nD τ) none) Set.univ (kk ()) Q)
        -∗ wp frame (wpE (defs₀ (F := F)) 𝒱₀ (c : Thread nD τ) none) Set.univ
            (Scf.Loop.for k0_t3_loop k0_t3_ok () (body3 c v5 v10 v16) >>= kk) Q) := by
  iintro H Hk
  iapply (Scf.wp_for_bind frame (wpE (defs₀ (F := F)) 𝒱₀ (c : Thread nD τ) none) Set.univ k0_t3_loop.lb k0_t3_loop.ub k0_t3_loop.st k0_t3_ok ()
    (body3 c v5 v10 v16) (fun k _ => between ew κ c x idx w k) (fun k acc => wp_pass ew κ c x idx w v5 v10 v16 hv k)) $$ [H]
  · iexact H
  iintro %acc H
  iapply Hk
  iapply (Entails.of_eq (congrArg (between ew κ c x idx w) trips3))
  iexact H

end Hops

end Cert.MoeRing

end
-- ==== Proof.Slots.lean ====
/-
# The buffers in parts

A direction's two-slot buffer as its two slots, and a device's eight experts as the two halves its first transfers read,
beside a share the loops read.
-/
module

public import proofs.«01_k».proof.Proof.Schedule

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The two slots -/

abbrev slotR (s : Fin 2) : Rect S2x4x512x1024 := Rect.unit (s := S2x4x512x1024) ![s.val, 0, 0, 0] S1x4x512x1024.size (slot_inb s)

theorem mem_slotR (s : Fin 2) (i : S2x4x512x1024.Idx) : i ∈ (slotR s).set ↔ i 0 = s := by
  rw [Rect.mem_set_unit]
  constructor
  · intro h
    have h0 := h 0
    refine Fin.ext ?_
    have e1 : s.val ≤ (i 0).val := h0.1
    have e2 : (i 0).val < s.val + 1 := h0.2
    omega
  · rintro rfl a
    have ha : (i a).val < S2x4x512x1024.size a := (i a).isLt
    fin_cases a
    · exact ⟨le_refl _, Nat.lt_succ_self _⟩
    · exact ⟨Nat.zero_le _, by show _ < 0 + 4; rw [Nat.zero_add]; exact ha⟩
    · exact ⟨Nat.zero_le _, by show _ < 0 + 512; rw [Nat.zero_add]; exact ha⟩
    · exact ⟨Nat.zero_le _, by show _ < 0 + 1024; rw [Nat.zero_add]; exact ha⟩

theorem slotR_union : (slotR 0).set ∪ (slotR 1).set = Finset.univ := by
  ext i
  rw [Finset.mem_union, mem_slotR, mem_slotR]
  have h : ∀ k : Fin 2, k = 0 ∨ k = 1 := by decide
  exact ⟨fun _ => Finset.mem_univ i, fun _ => h (i 0)⟩
theorem slotR_disjoint : Disjoint (slotR 0).set (slotR 1).set := by
  rw [Finset.disjoint_left]
  intro i h0 h1
  rw [mem_slotR] at h0 h1
  exact absurd (show (0 : Fin 2) = 1 from h0.symm.trans h1) (by decide)

theorem slotM_set_true (s : Fin 2) : (slotM true s).view.set = (slotR s).set :=
  (View.set_reshape _ _).trans (View.set_slice_whole cc0_scratch0 (slotR s))
theorem slotM_set_false (s : Fin 2) : (slotM false s).view.set = (slotR s).set :=
  (View.set_reshape _ _).trans (View.set_slice_whole cc0_scratch1 (slotR s))

omit [FloatOps F] in
theorem anySlot_intro (b : Bool) (s : Fin 2) (c : Dev nD) (f : (slotM b s).view.ty.Contents (Elt F)) :
    ((slotM b s).view.loc (c : Thread nD τ) ↦[(slotM b s).view.set]{fullShare} f : sProp 𝕄) ⊢ anySlot b s c := by
  unfold anySlot slot owns
  iintro H
  iexists ((slotM b s).view.read (Elt F) f)
  iexists f
  isplitr; · ipureintro; rfl
  iexact H
omit [FloatOps F] in
theorem anySlot_elim (b : Bool) (s : Fin 2) (c : Dev nD) :
    (anySlot b s c : sProp 𝕄) ⊢ iprop(∃ f, (slotM b s).view.loc (c : Thread nD τ) ↦[(slotM b s).view.set]{fullShare} f) := by
  unfold anySlot slot owns
  iintro ⟨%X, %f, -, H⟩
  iexists f; iexact H

omit [FloatOps F] in
/-- The clockwise buffer is its two slots, -/
theorem slots_true (c : Dev nD) :
    iprop(∃ f : Buf (Elt F) ((c : Thread nD τ).loc cc0_scratch0), ((c : Thread nD τ).loc cc0_scratch0) ↦{fullShare} f)
      ⊣⊢ (iprop(anySlot true 0 c ∗ anySlot true 1 c) : sProp 𝕄) := by
  constructor
  · iintro ⟨%f, H⟩
    ihave H2 := (show (((c : Thread nD τ).loc cc0_scratch0) ↦{fullShare} f : sProp 𝕄) ⊢ _ from
      (Entails.of_eq (congrArg (fun S => (((c : Thread nD τ).loc cc0_scratch0) ↦[S]{fullShare} f : sProp 𝕄)) slotR_union.symm)).trans
        (pointsTo_union slotR_disjoint).1) $$ H
    icases H2 with ⟨H0, H1⟩
    isplitl [H0]
    · iapply (anySlot_intro true 0 c f); rw [slotM_set_true]; iexact H0
    · iapply (anySlot_intro true 1 c f); rw [slotM_set_true]; iexact H1
  · iintro ⟨H0, H1⟩
    ihave H0' := (anySlot_elim true 0 c) $$ H0
    ihave H1' := (anySlot_elim true 1 c) $$ H1
    rw [slotM_set_true, slotM_set_true]
    icases H0' with ⟨%f, H0⟩
    icases H1' with ⟨%g, H1⟩
    iexists ((slotR 1).set.piecewise g f)
    iapply (show (iprop((((c : Thread nD τ).loc cc0_scratch0) ↦[(slotR 0).set]{fullShare} f) ∗ (((c : Thread nD τ).loc cc0_scratch0) ↦[(slotR 1).set]{fullShare} g)) : sProp 𝕄)
        ⊢ (((c : Thread nD τ).loc cc0_scratch0) ↦{fullShare} ((slotR 1).set.piecewise g f)) from
      (pointsTo_join slotR_disjoint).trans
        (Entails.of_eq (congrArg (fun S => (((c : Thread nD τ).loc cc0_scratch0) ↦[S]{fullShare} ((slotR 1).set.piecewise g f) : sProp 𝕄)) slotR_union)))
    isplitl [H0]
    · iexact H0
    · iexact H1

omit [FloatOps F] in
/-- and so is the counter-clockwise one. -/
theorem slots_false (c : Dev nD) :
    iprop(∃ f : Buf (Elt F) ((c : Thread nD τ).loc cc0_scratch1), ((c : Thread nD τ).loc cc0_scratch1) ↦{fullShare} f)
      ⊣⊢ (iprop(anySlot false 0 c ∗ anySlot false 1 c) : sProp 𝕄) := by
  constructor
  · iintro ⟨%f, H⟩
    ihave H2 := (show (((c : Thread nD τ).loc cc0_scratch1) ↦{fullShare} f : sProp 𝕄) ⊢ _ from
      (Entails.of_eq (congrArg (fun S => (((c : Thread nD τ).loc cc0_scratch1) ↦[S]{fullShare} f : sProp 𝕄)) slotR_union.symm)).trans
        (pointsTo_union slotR_disjoint).1) $$ H
    icases H2 with ⟨H0, H1⟩
    isplitl [H0]
    · iapply (anySlot_intro false 0 c f); rw [slotM_set_false]; iexact H0
    · iapply (anySlot_intro false 1 c f); rw [slotM_set_false]; iexact H1
  · iintro ⟨H0, H1⟩
    ihave H0' := (anySlot_elim false 0 c) $$ H0
    ihave H1' := (anySlot_elim false 1 c) $$ H1
    rw [slotM_set_false, slotM_set_false]
    icases H0' with ⟨%f, H0⟩
    icases H1' with ⟨%g, H1⟩
    iexists ((slotR 1).set.piecewise g f)
    iapply (show (iprop((((c : Thread nD τ).loc cc0_scratch1) ↦[(slotR 0).set]{fullShare} f) ∗ (((c : Thread nD τ).loc cc0_scratch1) ↦[(slotR 1).set]{fullShare} g)) : sProp 𝕄)
        ⊢ (((c : Thread nD τ).loc cc0_scratch1) ↦{fullShare} ((slotR 1).set.piecewise g f)) from
      (pointsTo_join slotR_disjoint).trans
        (Entails.of_eq (congrArg (fun S => (((c : Thread nD τ).loc cc0_scratch1) ↦[S]{fullShare} ((slotR 1).set.piecewise g f) : sProp 𝕄)) slotR_union)))
    isplitl [H0]
    · iexact H0
    · iexact H1

/-! ## The eight experts -/

abbrev ewR (k : Fin 2) : Rect S8x512x1024 := Rect.unit (s := S8x512x1024) ![4 * k.val, 0, 0] S4x512x1024.size (by revert k; decide)

theorem mem_ewR (k : Fin 2) (i : S8x512x1024.Idx) : i ∈ (ewR k).set ↔ (i 0).val / 4 = k.val := by
  rw [Rect.mem_set_unit]
  have h8 : (i 0).val < 8 := (i 0).isLt
  constructor
  · intro h
    have h0 := h 0
    have e1 : 4 * k.val ≤ (i 0).val := h0.1
    have e2 : (i 0).val < 4 * k.val + 4 := h0.2
    omega
  · intro h a
    have ha : (i a).val < S8x512x1024.size a := (i a).isLt
    fin_cases a
    · exact ⟨show 4 * k.val ≤ (i 0).val by omega, show (i 0).val < 4 * k.val + 4 by omega⟩
    · exact ⟨Nat.zero_le _, by show _ < 0 + 512; rw [Nat.zero_add]; exact ha⟩
    · exact ⟨Nat.zero_le _, by show _ < 0 + 1024; rw [Nat.zero_add]; exact ha⟩

theorem ewR_union : (ewR 0).set ∪ (ewR 1).set = Finset.univ := by
  ext i
  rw [Finset.mem_union, mem_ewR, mem_ewR]
  have h8 : (i 0).val < 8 := (i 0).isLt
  exact ⟨fun _ => Finset.mem_univ i, fun _ => by show (i 0).val / 4 = 0 ∨ (i 0).val / 4 = 1; omega⟩
theorem ewR_disjoint : Disjoint (ewR 0).set (ewR 1).set := by
  rw [Finset.disjoint_left]
  intro i h0 h1
  rw [mem_ewR] at h0 h1
  rw [h0] at h1
  exact absurd h1 (by decide)

theorem ewM_set_true : (ewM true).view.set = (ewR 0).set := View.set_slice_whole cc0_stg3_0 (ewR 0)
theorem ewM_set_false : (ewM false).view.set = (ewR 1).set := View.set_slice_whole cc0_stg3_0 (ewR 1)

/-- Equal reads through a view mean equal contents on its elements. -/
theorem eq_of_read {κ : Kind} {sp : Space} {s : Shape} {e : EltTy} {Val : EltTy → Type} (v : View sig κ sp s e) {f g : v.ty.Contents Val}
    (h : v.read Val f = v.read Val g) : ∀ i ∈ v.set, f i = g i := by
  intro i hi
  obtain ⟨j, -, rfl⟩ := Finset.mem_map.mp hi
  have := congrFun h j
  rw [View.read_apply, View.read_apply] at this
  exact (cast_inj _).mp this

variable (ew : Dev nD → Oct F)

omit [FloatOps F] in
/-- The experts' buffer whole is its two halves lent to the first transfers, beside the share the loops read. -/
theorem ew_split (c : Dev nD) :
    (((c : Thread nD τ).loc cc0_stg3_0) ↦{fullShare} (ew c) : sProp 𝕄)
      ⊢ iprop((own8 ew fullShare.left true c ∗ own8 ew fullShare.left false c) ∗ (((c : Thread nD τ).loc cc0_stg3_0) ↦{fullShare.right} (ew c))) := by
  iintro H
  ihave H2 := (pointsTo_share (PosShare.mem_left_op_right fullShare)).1 $$ H
  icases H2 with ⟨Hl, Hr⟩
  isplitl [Hl]
  · ihave H2 := (show (((c : Thread nD τ).loc cc0_stg3_0) ↦{fullShare.left} (ew c) : sProp 𝕄) ⊢ _ from
      (Entails.of_eq (congrArg (fun S => (((c : Thread nD τ).loc cc0_stg3_0) ↦[S]{fullShare.left} (ew c) : sProp 𝕄)) ewR_union.symm)).trans
        (pointsTo_union ewR_disjoint).1) $$ Hl
    icases H2 with ⟨H0, H1⟩
    unfold own8 owns
    isplitl [H0]
    · iexists (ew c)
      isplitr; · ipureintro; rfl
      rw [ewM_set_true]; iexact H0
    · iexists (ew c)
      isplitr; · ipureintro; rfl
      rw [ewM_set_false]; iexact H1
  · iexact Hr

omit [FloatOps F] in
/-- And back. -/
theorem ew_join (c : Dev nD) :
    iprop((own8 ew fullShare.left true c ∗ own8 ew fullShare.left false c) ∗ (((c : Thread nD τ).loc cc0_stg3_0) ↦{fullShare.right} (ew c)))
      ⊢ (((c : Thread nD τ).loc cc0_stg3_0) ↦{fullShare} (ew c) : sProp 𝕄) := by
  unfold own8 owns
  iintro ⟨⟨⟨%f, %hf, H0⟩, ⟨%g, %hg, H1⟩⟩, Hr⟩
  have ef : ((ewM true).view.loc (c : Thread nD τ) ↦[(ewM true).view.set]{fullShare.left} f : sProp 𝕄)
      = (((c : Thread nD τ).loc cc0_stg3_0) ↦[(ewR 0).set]{fullShare.left} (ew c)) := by
    rw [← ewM_set_true]; exact pointsTo_congr (eq_of_read (ewM true).view (g := ew c) hf)
  have eg : ((ewM false).view.loc (c : Thread nD τ) ↦[(ewM false).view.set]{fullShare.left} g : sProp 𝕄)
      = (((c : Thread nD τ).loc cc0_stg3_0) ↦[(ewR 1).set]{fullShare.left} (ew c)) := by
    rw [← ewM_set_false]; exact pointsTo_congr (eq_of_read (ewM false).view (g := ew c) hg)
  iapply (pointsTo_share (PosShare.mem_left_op_right fullShare)).2
  isplitr [Hr]
  · iapply (show (iprop((((c : Thread nD τ).loc cc0_stg3_0) ↦[(ewR 0).set]{fullShare.left} (ew c)) ∗ (((c : Thread nD τ).loc cc0_stg3_0) ↦[(ewR 1).set]{fullShare.left} (ew c))) : sProp 𝕄)
        ⊢ (((c : Thread nD τ).loc cc0_stg3_0) ↦{fullShare.left} (ew c)) from
      (pointsTo_union ewR_disjoint).2.trans
        (Entails.of_eq (congrArg (fun S => (((c : Thread nD τ).loc cc0_stg3_0) ↦[S]{fullShare.left} (ew c) : sProp 𝕄)) ewR_union)))
    isplitl [H0]
    · iapply (Entails.of_eq ef) $$ H0
    · iapply (Entails.of_eq eg) $$ H1
  · iexact Hr

end Cert.MoeRing

end
-- ==== Proof.Body.lean ====
/-
# The kernel body

A device's whole run of the body, from what it holds at launch to what it leaves.
-/
module

public import proofs.«01_k».proof.Proof.HopLoop
public import proofs.«01_k».proof.Proof.Slots

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Body

variable (ew : Dev nD → Oct F) (κ : GSem nD τ sig → ℕ)

/-- What a device starts with in direction `b`. -/
def start (b : Bool) (c : Dev nD) : sProp 𝕄 :=
  iprop(atPos ER (cell c (.cred b)) 0 ∅ 0 ∗ reached ER (cell c (.cred b)) 0
    ∗ (bigSep (Finset.Ico 0 7) fun h => tickets b h c)
    ∗ (bigSep (Finset.Ico 0 6) fun r => cred (tallyAt (cell c (.cred b)) r 1))
    ∗ (bigSep (Finset.Ico 0 6) fun r => dutyTok ER (cell (nbr (!b) c) (.cred b)) r false))

/-- And at the barrier. -/
def startBar (c : Dev nD) : sProp 𝕄 :=
  iprop(atPos ER (cell c .bar) 0 ∅ 0 ∗ cred (tallyAt (cell c .bar) 0 2)
    ∗ (dutyTok ER (cell (nbr false c) .bar) 0 true ∗ reached ER (cell (nbr false c) .bar) 0)
    ∗ (dutyTok ER (cell (nbr true c) .bar) 0 false ∗ reached ER (cell (nbr true c) .bar) 0))

/-- Direction `b`'s semaphores at the end: all zero. -/
def finish (b : Bool) (c : Dev nD) : sProp 𝕄 :=
  iprop(semVal (cell c (.cred b)) 0 ∗ bigSep (Finset.range 7) fun h => iprop(semVal (cell c (.send b h)) 0 ∗ semVal (cell c (.recv b h)) 0))

/-- The two ring buffers, whatever they hold. -/
def rings (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

theorem side_start (b : Bool) (c : Dev nD) :
    iprop(slot fullShare b 1 c (held ew b 1 c) ∗ atPos ER (cell c (.cred b)) 0 ∅ 0
      ∗ (bigSep (Finset.Ico 1 7) fun h => tickets b h c)
      ∗ (bigSep (Finset.Ico 0 6) fun r => cred (tallyAt (cell c (.cred b)) r 1))
      ∗ (bigSep (Finset.Ico 1 6) fun r => dutyTok ER (cell (nbr (!b) c) (.cred b)) r false)
      ∗ (semVal (cell c (.send b 0)) 0 ∗ semVal (cell c (.recv b 0)) 0)) ⊢ side ew b 0 c := by
  unfold side
  rw [range_succ _ 0, Finset.range_zero, BI.bigSep_empty]
  iintro ⟨Hs, Ha, Ht, Hc, Hd, Hz⟩
  isplitl [Hs]; · iexact Hs
  isplitl [Ha]; · iexact Ha
  isplitl [Ht]; · iexact Ht
  isplitl [Hc]; · iexact Hc
  isplitl [Hd]; · iexact Hd
  isplitl [Hz]
  · isplitl [Hz]; · iexact Hz
    iempintro
  · iempintro

theorem side_end (b : Bool) (c : Dev nD) : iprop(env ew κ ∗ side ew b 6 c)
    ⊢ (|={Set.univ}=> (finish b c ∗ (anySlot b 0 c ∗ anySlot b 1 c)) : sProp 𝕄) := by
  unfold side finish
  iintro ⟨#HE, Hs, Ha, -, -, -, Hz, Hx⟩
  ihave Hc := (close ew κ c (.cred b) trivial 6 (le_refl 6)) $$ [Ha]
  · isplitr; · iexact HE
    iexact Ha
  imod Hc with Hc
  imodintro
  isplitl [Hc Hz]
  · isplitl [Hc]; · iexact Hc
    iexact Hz
  · isplitl [Hx]; · iapply (Entails.of_eq (show (if 6 < 6 then iprop(emp) else anySlot (F := F) b (par 6) c) = anySlot b 0 c from if_neg (by omega))) $$ Hx
    unfold anySlot
    iexists (held ew b (6 + 1) c)
    iexact Hs

variable (c : Dev nD) (x : Vec F S2048x512 .bf16) (idx : Vec F S2048x2 .i32) (w : Vec F S2048x2 .f32)

abbrev body : Prog (TpuEff nD τ sig (Elt F) Λ₀ .tc) PUnit :=
  cc0_body xM (Memref.isWhole_whole _) wM (Memref.isWhole_whole _) iM (Memref.isWhole_whole _) eM (Memref.isWhole_whole _)
    oM (Memref.isWhole_whole _) (ringM true) (Memref.isWhole_whole _) (ringM false) (Memref.isWhole_whole _)
    cc0_scratch2 cc0_scratch3 cc0_scratch4 cc0_scratch5 cc0_scratch6 cc0_scratch7

theorem word_self : ∀ c : Dev nD, Scalar.remsi (Scalar.divsi (Dev.word c) 1#32) 8#32 = BitVec.ofNat 32 c.val := by decide
theorem word_swap : ∀ c : Dev nD, Scalar.select (Scalar.cmpi .slt (Scalar.remsi (Scalar.divsi (Dev.word c) 1#32) 8#32) 4#32)
    (Scalar.remsi (Scalar.divsi (Dev.word c) 1#32) 8#32) (Scalar.subi 11#32 (Scalar.remsi (Scalar.divsi (Dev.word c) 1#32) 8#32))
    = BitVec.ofNat 32 (swap c.val) := by decide

theorem wp_body (A : FVec F S2048x1024 .f32) :
    iprop(env ew κ ∗ (ready true c ∗ ready false c) ∗ comp c x idx w A ∗ (((c : Thread nD τ).loc cc0_stg3_0) ↦{fullShare} (ew c))
        ∗ rings c ∗ owing c (due₀ c) ∗ startBar c ∗ start true c ∗ start false c)
      ⊢ wp frame (wpE (defs₀ (F := F)) 𝒱₀ (c : Thread nD τ) none) Set.univ body
          fun _ => iprop(comp c x idx w (outAfter x idx w ew c 8) ∗ (((c : Thread nD τ).loc cc0_stg3_0) ↦{fullShare} (ew c))
            ∗ rings c ∗ owing c 0 ∗ semVal (cell c .bar) 0 ∗ finish true c ∗ finish false c) := by
  unfold body
  rw [cc0_body_eq_skeleton]
  unfold cc0_body_skel
  simp only [k0_part2_eq_skeleton, k0_part3_eq_skeleton, k0_part4_eq_skeleton]
  unfold k0_part2_skel k0_part3_skel k0_part4_skel
  simp only [semSignalWord, semWaitWord, Prog.lift, Prog.bind_op, Prog.bind_ret, Prog.pure_eq_ret, Prog.bind_assoc, wp_deviceId]
  unfold rings startBar start due₀
  iintro ⟨#HE, ⟨#HyT, #HyF⟩, HC0, HW, ⟨HrT, HrF⟩, HO, ⟨Hab, Hcb, ⟨HbF, #HqF⟩, HbT, #HqT⟩,
    ⟨HaT, #HuT, HtT, HcT, HdT⟩, HaF, #HuF, HtF, HcF, HdF⟩
  ihave HC0' := (show comp c x idx w A ⊢ _ from by unfold comp; exact Entails.of_eq rfl) $$ HC0
  icases HC0' with ⟨Hx, Hw, Hi, Ho⟩
  ihave HrT' := (slots_true c).1 $$ HrT
  icases HrT' with ⟨HzT, HnT⟩
  ihave HrF' := (slots_false c).1 $$ HrF
  icases HrF' with ⟨HzF, HnF⟩
  -- the barrier
  iapply (wp_bar_signal ew κ c _ false (dev1_eq c) (s := (SemArray.scalar (sig.barrier 0 rfl)).sem) rfl (due c 0 + tallyAt (cell (nbr true c) .bar) 0 1)) $$ [HO HbF HnT]
  · isplitr; · iexact HE
    isplitl [HO]; · iexact HO
    isplitl [HbF]; · iexact HbF
    isplitl [HnT]
    · isplitl [HnT]; · iexact HnT
      iexact HyT
    iexact HqF
  iintro HO
  iapply (wp_bar_signal ew κ c _ true (dev2_eq c) (s := (SemArray.scalar (sig.barrier 0 rfl)).sem) rfl (due c 0)) $$ [HO HbT HnF]
  · isplitr; · iexact HE
    isplitl [HO]; · iexact HO
    isplitl [HbT]; · iexact HbT
    isplitl [HnF]
    · isplitl [HnF]; · iexact HnF
      iexact HyF
    iexact HqT
  iintro HO
  iapply (wp_bar_wait ew κ c (s := (SemArray.scalar (sig.barrier 0 rfl)).sem) rfl) $$ [Hcb HO Hab]
  · isplitr; · iexact HE
    isplitl [Hcb]; · iexact Hcb
    isplitl [HO]; · iexact HO
    iexact Hab
  iintro ⟨HO, Hab, ⟨HnF, #HRF⟩, HnT, #HRT⟩
  -- the result cleared
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  ihave HC := (show iprop((xM.view.loc (c : Thread nD τ) ↦{fullShare} x) ∗ (wM.view.loc (c : Thread nD τ) ↦{fullShare} w)
    ∗ (iM.view.loc (c : Thread nD τ) ↦{fullShare} idx) ∗ (oM.view.loc (c : Thread nD τ) ↦{fullShare} outAfter x idx w ew c 0))
      ⊢ comp c x idx w (outAfter x idx w ew c 0) from by unfold comp; exact Entails.of_eq rfl) $$ [Hx Hw Hi Ho]
  · isplitl [Hx]; · iexact Hx
    isplitl [Hw]; · iexact Hw
    isplitl [Hi]; · iexact Hi
    iapply (Entails.of_eq (congrArg (fun g => (oM.view.loc (c : Thread nD τ) ↦{fullShare} g : sProp 𝕄))
      (Memref.write_access_unit_zero_univ (Elt F) cc0_stg4_0 zero2 _ A (k0_pay3 (F := F))))) $$ Ho
  -- the first two transfers
  ihave HW' := (ew_split ew c) $$ HW
  icases HW' with ⟨⟨HlT, HlF⟩, HW⟩
  ihave HtT' := (peel (fun h => tickets (F := F) true h c) (show 0 < 7 by omega)).1 $$ HtT
  icases HtT' with ⟨Ht0, HtT⟩
  ihave Ht0' := (show tickets (F := F) true 0 c ⊢ _ from by unfold tickets; exact Entails.of_eq rfl) $$ Ht0
  icases Ht0' with ⟨HsaT, #HsrT, HstT, HraT, HrcT, HrtT⟩
  ihave HtF' := (peel (fun h => tickets (F := F) false h c) (show 0 < 7 by omega)).1 $$ HtF
  icases HtF' with ⟨Ht0, HtF⟩
  ihave Ht0' := (show tickets (F := F) false 0 c ⊢ _ from by unfold tickets; exact Entails.of_eq rfl) $$ Ht0
  icases Ht0' with ⟨HsaF, #HsrF, HstF, HraF, HrcF, HrtF⟩
  ihave HdT' := (peel (fun r => (dutyTok ER (cell (nbr (!true) c) (.cred true)) r false : sProp 𝕄)) (show 0 < 6 by omega)).1 $$ HdT
  icases HdT' with ⟨HvT, HdT⟩
  ihave HdF' := (peel (fun r => (dutyTok ER (cell (nbr (!false) c) (.cred false)) r false : sProp 𝕄)) (show 0 < 6 by omega)).1 $$ HdF
  icases HdF' with ⟨HvF, HdF⟩
  iapply (wp_send ew κ c _ true 0 (by omega) (dev3_eq c) (sendA_sem true 0 (by omega) (off := ![0]) rfl _)
    (recvA_sem true 0 (by omega) (off := ![0]) rfl _) (S := ewM true) rfl
    (slotM_eq true (par 1) (off := ![1, 0, 0, 0]) rfl _) (mid c 0 + tallyAt (cell (nbr false c) (.recv false 0)) 0 N))
    $$ [HlT HnT HO HstT HrtT]
  · isplitr; · iexact HE
    isplitl [HlT]; · iapply (Entails.of_eq (show own8 ew fullShare.left true c = lent ew true 0 c from (if_pos rfl).symm)) $$ HlT
    isplitl [HnT]; · iexact HnT
    isplitr; · iexact HuT
    isplitl [HO]; · iapply (Entails.of_eq (congrArg (owing c) (due_eq c 0 (by omega)))) $$ HO
    isplitl [HstT]; · iexact HstT
    isplitr; · iexact HsrT
    isplitl [HrtT]; · iexact HrtT
    iapply (ready_recv true (nbr true c) 0 (by omega)); iexact HRT
  iintro ⟨HscT, HO⟩
  iapply (wp_send ew κ c _ false 0 (by omega) (dev4_eq c) (sendA_sem false 0 (by omega) (off := ![0]) rfl _)
    (recvA_sem false 0 (by omega) (off := ![0]) rfl _) (S := ewM false) rfl
    (slotM_eq false (par 1) (off := ![1, 0, 0, 0]) rfl _) (mid c 0))
    $$ [HlF HnF HO HstF HrtF]
  · isplitr; · iexact HE
    isplitl [HlF]; · iapply (Entails.of_eq (show own8 ew fullShare.left false c = lent ew false 0 c from (if_pos rfl).symm)) $$ HlF
    isplitl [HnF]; · iexact HnF
    isplitr; · iexact HuF
    isplitl [HO]; · iexact HO
    isplitl [HstF]; · iexact HstF
    isplitr; · iexact HsrF
    isplitl [HrtF]; · iexact HrtF
    iapply (ready_recv false (nbr false c) 0 (by omega)); iexact HRF
  iintro ⟨HscF, HO⟩
  -- the device's own experts
  iapply (wp_own_true cc0_scratch2 cc0_scratch3 cc0_scratch4 cc0_scratch5 cc0_scratch6 cc0_scratch7 c _ _ _ c x idx w _ (word_self c) fullShare.right (ew c)) $$ [HC HW]
  · isplitl [HC]; · iexact HC
    iexact HW
  iintro ⟨HC, HW⟩
  iapply (wp_own_false cc0_scratch2 cc0_scratch3 cc0_scratch4 cc0_scratch5 cc0_scratch6 cc0_scratch7 c _ _ _ c x idx w _ (word_self c) fullShare.right (ew c)) $$ [HC HW]
  · isplitl [HC]; · iexact HC
    iexact HW
  iintro ⟨HC, HW⟩
  simp only [Prog.bind_op, Prog.bind_ret]
  -- the two first credits
  iapply (wp_credit_signal ew κ c _ true 0 (by omega) (dev5_eq c) (s := cc0_scratch6.sem) rfl
    (due c 1 + tallyAt (cell (nbr true c) (.cred false)) 0 1)) $$ [HO HvT HzT]
  · isplitr; · iexact HE
    isplitl [HO]; · iapply (Entails.of_eq (congrArg (owing c) (show mid c 0 = _ from if_pos (by omega)))) $$ HO
    isplitl [HvT]; · iexact HvT
    isplitl [HzT]; · iexact HzT
    iapply (show ready (F := F) false (nbr false c) ⊢ reached ER (cell (nbr false c) (.cred true)) 0 from by
      unfold ready; iintro ⟨-, #H⟩; iexact H); iexact HRF
  iintro HO
  iapply (wp_credit_signal ew κ c _ false 0 (by omega) (dev6_eq c) (s := cc0_scratch7.sem) rfl (due c 1)) $$ [HO HvF HzF]
  · isplitr; · iexact HE
    isplitl [HO]; · iexact HO
    isplitl [HvF]; · iexact HvF
    isplitl [HzF]; · iexact HzF
    iapply (show ready (F := F) true (nbr true c) ⊢ reached ER (cell (nbr true c) (.cred false)) 0 from by
      unfold ready; iintro ⟨-, #H⟩; iexact H); iexact HRT
  iintro HO
  -- the first transfers awaited
  iapply (wp_wait_send ew κ c true 0 (by omega) (sendA_sem true 0 (by omega) (off := ![0]) rfl _) (N_ew true)
    (O := due c 1) (fun g j h => ⟨(due_above h).1, Nat.lt_of_le_of_lt (Nat.zero_le _) (due_above h).2⟩)) $$ [HscT HO HsaT]
  · isplitr; · iexact HE
    isplitl [HscT]; · iexact HscT
    isplitl [HO]; · iexact HO
    iexact HsaT
  iintro ⟨HO, HzsT, HlT⟩
  iapply (wp_wait_recv ew κ c true 0 (by omega) (recvA_sem true 0 (by omega) (off := ![0]) rfl _)
    ((congrArg (fun M : Memref sig .tc .vmem S4x512x1024 .bf16 => M.view.dmaCredit) (slotM_eq true (par 1) (off := ![1, 0, 0, 0]) rfl _)).trans (N_slot _ _))
    (O := due c 1) (fun g j h => ⟨(due_above h).1, Nat.lt_of_le_of_lt (by omega) (due_above h).2⟩)) $$ [HrcT HO HraT]
  · isplitr; · iexact HE
    isplitl [HrcT]; · iexact HrcT
    isplitl [HO]; · iexact HO
    iexact HraT
  iintro ⟨HO, HzrT, HnT⟩
  iapply (wp_wait_send ew κ c false 0 (by omega) (sendA_sem false 0 (by omega) (off := ![0]) rfl _) (N_ew false)
    (O := due c 1) (fun g j h => ⟨(due_above h).1, Nat.lt_of_le_of_lt (Nat.zero_le _) (due_above h).2⟩)) $$ [HscF HO HsaF]
  · isplitr; · iexact HE
    isplitl [HscF]; · iexact HscF
    isplitl [HO]; · iexact HO
    iexact HsaF
  iintro ⟨HO, HzsF, HlF⟩
  iapply (wp_wait_recv ew κ c false 0 (by omega) (recvA_sem false 0 (by omega) (off := ![0]) rfl _)
    ((congrArg (fun M : Memref sig .tc .vmem S4x512x1024 .bf16 => M.view.dmaCredit) (slotM_eq false (par 1) (off := ![1, 0, 0, 0]) rfl _)).trans (N_slot _ _))
    (O := due c 1) (fun g j h => ⟨(due_above h).1, Nat.lt_of_le_of_lt (by omega) (due_above h).2⟩)) $$ [HrcF HO HraF]
  · isplitr; · iexact HE
    isplitl [HrcF]; · iexact HrcF
    isplitl [HO]; · iexact HO
    iexact HraF
  iintro ⟨HO, HzrF, HnF⟩
  unfold landed
  icases HnT with ⟨HnT, -⟩
  icases HnF with ⟨HnF, -⟩
  ihave HW := (show iprop((lent ew true 0 c ∗ lent ew false 0 c) ∗ (eM.view.loc (c : Thread nD τ) ↦{fullShare.right} (ew c)))
    ⊢ (((c : Thread nD τ).loc cc0_stg3_0) ↦{fullShare} (ew c) : sProp 𝕄) from ew_join ew c) $$ [HlT HlF HW]
  · isplitr [HW]
    · isplitl [HlT]; · iexact HlT
      iexact HlF
    · iexact HW
  ihave Hab' := (close ew κ c .bar trivial 1 (le_refl 1)) $$ [Hab]
  · isplitr; · iexact HE
    iexact Hab
  imod Hab' with Hab
  -- the hops
  iapply (wp_hops ew κ c x idx w _ _ _ (word_swap c)) $$ [HC HO HnT HaT HtT HcT HdT HzsT HzrT HnF HaF HtF HcF HdF HzsF HzrF]
  · unfold between
    isplitr; · iexact HE
    isplitr
    · isplitr; · iexact HRT
      iexact HRF
    isplitl [HC]; · iexact HC
    isplitl [HO]; · iexact HO
    isplitl [HnT HaT HtT HcT HdT HzsT HzrT]
    · iapply (side_start ew true c)
      isplitl [HnT]; · iexact HnT
      isplitl [HaT]; · iexact HaT
      isplitl [HtT]; · iexact HtT
      isplitl [HcT]; · iexact HcT
      isplitl [HdT]; · iexact HdT
      isplitl [HzsT]; · iexact HzsT
      iexact HzrT
    · iapply (side_start ew false c)
      isplitl [HnF]; · iexact HnF
      isplitl [HaF]; · iexact HaF
      isplitl [HtF]; · iexact HtF
      isplitl [HcF]; · iexact HcF
      isplitl [HdF]; · iexact HdF
      isplitl [HzsF]; · iexact HzsF
      iexact HzrF
  unfold between
  iintro ⟨-, -, HC, HO, HT, HF⟩
  ihave HT' := (side_end ew κ true c) $$ [HT]
  · isplitr; · iexact HE
    iexact HT
  imod HT' with ⟨HT, HzT⟩
  ihave HF' := (side_end ew κ false c) $$ [HF]
  · isplitr; · iexact HE
    iexact HF
  imod HF' with ⟨HF, HzF⟩
  rw [wp_ret]
  imodintro
  isplitl [HC]; · iexact HC
  isplitl [HW]; · iexact HW
  isplitl [HzT HzF]
  · isplitl [HzT]
    · iapply (slots_true c).2; iexact HzT
    · iapply (slots_false c).2; iexact HzF
  isplitl [HO]; · iapply (Entails.of_eq (congrArg (owing c) (due_end c 8 (by omega)))) $$ HO
  isplitl [Hab]; · iexact Hab
  isplitl [HT]; · iexact HT
  iexact HF

end Body

end Cert.MoeRing

end
-- ==== Proof.Deal.lean ====
/-
# Dealing the launch

What every device is given when the program starts: the rights to open its semaphores' cells, the duties it will pay and
the credit for what it will wait for. And how, at the kernel's own entry, the cells are opened.

-/
module

public import proofs.«01_k».proof.Proof.Body

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Separating conjunctions over sums, pairs and the kernel's own semaphores -/

omit [FloatOps F] in
theorem bigSep_either {α β : Type} [Fintype α] [Fintype β] [DecidableEq α] [DecidableEq β] (Φ : α ⊕ β → sProp 𝕄) :
    bigSep Finset.univ Φ = iprop((bigSep Finset.univ fun a => Φ (.inl a)) ∗ bigSep Finset.univ fun b => Φ (.inr b)) := by
  rw [show (Finset.univ : Finset (α ⊕ β)) = Finset.univ.map Function.Embedding.inl ∪ Finset.univ.map Function.Embedding.inr from by
      ext x; cases x <;> simp,
    bigSep_union (by
      rw [Finset.disjoint_left]; intro x hx hy
      obtain ⟨a, -, rfl⟩ := Finset.mem_map.mp hx
      obtain ⟨b, -, h⟩ := Finset.mem_map.mp hy
      cases h), bigSep_map, bigSep_map]
  rfl

omit [FloatOps F] in
theorem bigSep_zip {I : Type} [DecidableEq I] {s : Finset I} {Φ Ψ : I → sProp 𝕄} :
    iprop(bigSep s Φ ∗ bigSep s Ψ) ⊢ bigSep s fun i => iprop(Φ i ∗ Ψ i) := Entails.of_eq (bigSep_sep' _ _ _).symm
omit [FloatOps F] in
theorem bigSep_unzip {I : Type} [DecidableEq I] {s : Finset I} {Φ Ψ : I → sProp 𝕄} :
    (bigSep s fun i => iprop(Φ i ∗ Ψ i)) ⊢ iprop(bigSep s Φ ∗ bigSep s Ψ) := Entails.of_eq (bigSep_sep' _ _ _)

omit [FloatOps F] in
theorem bigSep_each {I : Type} [DecidableEq I] {s : Finset I} {Φ Ψ : I → sProp 𝕄} (h : ∀ i ∈ s, Φ i ⊢ Ψ i) : bigSep s Φ ⊢ bigSep s Ψ :=
  bigSep_mono h

omit [FloatOps F] in
theorem bigSep_one (Φ : Unit → sProp 𝕄) : bigSep Finset.univ Φ = Φ () := by
  rw [show (Finset.univ : Finset Unit) = {()} from rfl, bigSep_singleton]

omit [FloatOps F] in
theorem bigSep_both (Φ : Bool → sProp 𝕄) : bigSep Finset.univ Φ = iprop(Φ true ∗ Φ false) := by
  rw [show (Finset.univ : Finset Bool) = insert true {false} from rfl, BI.bigSep_insert (by decide), bigSep_singleton]
  rfl

omit [FloatOps F] in
theorem bigSep_below (n : ℕ) (Φ : ℕ → sProp 𝕄) : (bigSep Finset.univ fun i : Fin n => Φ i.val) = bigSep (Finset.range n) Φ := by
  rw [show Finset.range n = (Finset.univ : Finset (Fin n)).map Fin.valEmbedding from by
    ext x; simp only [Finset.mem_range, Finset.mem_map, Finset.mem_univ, true_and]
    exact ⟨fun h => ⟨⟨x, h⟩, rfl⟩, fun ⟨a, h⟩ => h ▸ a.isLt⟩, bigSep_map]
  rfl

/-- A direction's own semaphores: its credit; each hop's send and receive. -/
abbrev Own : Type := Bool × (Unit ⊕ (Fin 8 × Bool))

set_option backward.proofsInPublic true in
def ownIx : Own → Fin 34
  | (b, .inl _) => if b then 0 else 1
  | (b, .inr (h, s)) => ⟨(if b then 2 else 18) + (if s then 0 else 8) + h.val, by have := h.isLt; split <;> split <;> omega⟩

theorem ownIx_bij : Function.Bijective ownIx := by decide

def ownEquiv : Own ≃ Fin 34 := Equiv.ofBijective ownIx ownIx_bij

def ownKd : Own → Kd
  | (b, .inl _) => .cred b
  | (b, .inr (h, s)) => if s then .send b h.val else .recv b h.val

theorem osem_own : ∀ x : Own, osem (ownEquiv x) = (ownKd x).loc := by
  show ∀ x : Own, osem (ownIx x) = (ownKd x).loc
  decide

/-- One direction's share of a family over the kernel's own semaphores. -/
def share (Φ : SemLoc sig → sProp 𝕄) (b : Bool) : sProp 𝕄 :=
  iprop(Φ (Kd.cred b).loc ∗ (bigSep (Finset.range 7) fun h => iprop(Φ (Kd.send b h).loc ∗ Φ (Kd.recv b h).loc))
    ∗ (Φ (Kd.send b 7).loc ∗ Φ (Kd.recv b 7).loc))

theorem bigSep_osem (Φ : SemLoc sig → sProp 𝕄) :
    (bigSep Finset.univ fun i : Fin 34 => Φ (osem i)) ⊣⊢ iprop(share Φ true ∗ share Φ false) := by
  have one (b : Bool) : (bigSep Finset.univ fun y : Unit ⊕ (Fin 8 × Bool) => Φ (osem (ownEquiv (b, y)))) ⊣⊢ share Φ b := by
    rw [bigSep_either, bigSep_one, bigSep_univ_prod, osem_own, show (ownKd (b, Sum.inl ())).loc = (Kd.cred b).loc from rfl]
    rw [show (bigSep Finset.univ fun h : Fin 8 => bigSep Finset.univ fun s : Bool => Φ (osem (ownEquiv (b, .inr (h, s)))))
        = bigSep Finset.univ fun h : Fin 8 => (fun n : ℕ => iprop(Φ (Kd.send b n).loc ∗ Φ (Kd.recv b n).loc)) h.val from
      bigSep_congr fun h _ => by rw [bigSep_both, osem_own, osem_own]; rfl,
      bigSep_below 8 (fun n : ℕ => iprop(Φ (Kd.send b n).loc ∗ Φ (Kd.recv b n).loc)), range_succ]
    unfold share
    constructor
    · iintro ⟨H1, H2, H3⟩
      isplitl [H1]; · iexact H1
      isplitl [H3] <;> iassumption
    · iintro ⟨H1, H2, H3⟩
      isplitl [H1]; · iexact H1
      isplitl [H3] <;> iassumption
  rw [bigSep_univ_equiv ownEquiv, bigSep_univ_prod, bigSep_both]
  constructor
  · exact BIClass.sep_mono (one true).1 (one false).1
  · exact BIClass.sep_mono (one true).2 (one false).2

/-! ## The duties -/

/-- The duties a device pays in a direction: its barrier signal; each hop's departure and landing; each credit. -/
abbrev Tok : Type := Bool × (Unit ⊕ ((Fin 7 × Bool) ⊕ Fin 6))

def tokKd : Tok → Kd
  | (_, .inl _) => .bar
  | (b, .inr (.inl (h, s))) => if s then .send b h.val else .recv b h.val
  | (b, .inr (.inr _)) => .cred b
def tokRound : Tok → ℕ
  | (_, .inr (.inr r)) => r.val
  | _ => 0
def tokName : Tok → Bool
  | (b, .inl _) => !b
  | _ => false
/-- The device on whose cell it pays it. -/
def tokDev (x : Tok) : Dev nD ≃ Dev nD :=
  match x with
  | (b, .inl _) => turn b
  | (b, .inr (.inl (_, s))) => if s then Equiv.refl _ else turn b
  | (b, .inr (.inr _)) => turn (!b)

set_option maxRecDepth 4000 in
theorem tok_inj : Function.Injective fun x : Tok => ((tokKd x).loc, tokRound x, tokName x) := by decide

def tokEmb : Dev nD × Tok ↪ GSem nD τ sig × ℕ × Bool :=
  ⟨fun cx => (cell (tokDev cx.2 cx.1) (tokKd cx.2), tokRound cx.2, tokName cx.2), fun x y h => by
    have h2 : x.2 = y.2 := tok_inj (Prod.ext (congrArg (fun t : GSem nD τ sig × ℕ × Bool => t.1.2) h)
      (congrArg (fun t : GSem nD τ sig × ℕ × Bool => t.2) h))
    have h1 : tokDev x.2 x.1 = tokDev y.2 y.1 := congrArg (fun t : GSem nD τ sig × ℕ × Bool => t.1.1.1) h
    rw [h2] at h1
    exact Prod.ext ((tokDev y.2).injective h1) h2⟩

def toks : Finset (GSem nD τ sig × ℕ × Bool) := Finset.univ.map tokEmb

/-- The duties device `c` pays in direction `b`. -/
def pays (b : Bool) (c : Dev nD) : sProp 𝕄 :=
  iprop(dutyTok ER (cell (nbr b c) .bar) 0 (!b)
    ∗ (bigSep (Finset.range 7) fun h => iprop(dutyTok ER (cell c (.send b h)) 0 false ∗ dutyTok ER (cell (nbr b c) (.recv b h)) 0 false))
    ∗ bigSep (Finset.range 6) fun r => dutyTok ER (cell (nbr (!b) c) (.cred b)) r false)

theorem toks_eq : (bigSep toks fun x => (dutyTok ER x.1 x.2.1 x.2.2 : sProp 𝕄))
    = bigSep Finset.univ fun c : Dev nD => iprop(pays true c ∗ pays false c) := by
  unfold toks
  rw [bigSep_map, bigSep_univ_prod]
  refine bigSep_congr fun c _ => ?_
  have one (b : Bool) : (bigSep Finset.univ fun y : Unit ⊕ ((Fin 7 × Bool) ⊕ Fin 6) =>
      (dutyTok ER (cell (tokDev (b, y) c) (tokKd (b, y))) (tokRound (b, y)) (tokName (b, y)) : sProp 𝕄)) = pays b c := by
    rw [bigSep_either, bigSep_one, bigSep_either, bigSep_univ_prod]
    rw [show (bigSep Finset.univ fun h : Fin 7 => bigSep Finset.univ fun s : Bool =>
          (dutyTok ER (cell (tokDev (b, .inr (.inl (h, s))) c) (tokKd (b, .inr (.inl (h, s))))) (tokRound (b, .inr (.inl (h, s)))) (tokName (b, .inr (.inl (h, s)))) : sProp 𝕄))
        = bigSep Finset.univ fun h : Fin 7 => (fun n : ℕ => iprop(dutyTok ER (cell c (.send b n)) 0 false ∗ dutyTok ER (cell (nbr b c) (.recv b n)) 0 false)) h.val from
      bigSep_congr fun h _ => by rw [bigSep_both]; rfl,
      bigSep_below 7 (fun n : ℕ => iprop(dutyTok ER (cell c (.send b n)) 0 false ∗ dutyTok ER (cell (nbr b c) (.recv b n)) 0 false))]
    rw [show (bigSep Finset.univ fun r : Fin 6 =>
          (dutyTok ER (cell (tokDev (b, .inr (.inr r)) c) (tokKd (b, .inr (.inr r)))) (tokRound (b, .inr (.inr r))) (tokName (b, .inr (.inr r))) : sProp 𝕄))
        = bigSep Finset.univ fun r : Fin 6 => (fun n : ℕ => dutyTok ER (cell (nbr (!b) c) (.cred b)) n false) r.val from
      bigSep_congr fun r _ => rfl, bigSep_below 6 (fun n : ℕ => dutyTok ER (cell (nbr (!b) c) (.cred b)) n false)]
    rfl
  show (bigSep Finset.univ fun x : Tok => (dutyTok ER (cell (tokDev x c) (tokKd x)) (tokRound x) (tokName x) : sProp 𝕄)) = _
  rw [bigSep_univ_prod, bigSep_both, one true, one false]

/-! ## The credit -/

/-- The credit device `c` is given in direction `b`: for the landings and the credits it waits for. -/
def gets (b : Bool) (c : Dev nD) : sProp 𝕄 :=
  iprop((bigSep (Finset.range 7) fun h => cred (tallyAt (cell c (.recv b h)) 0 N))
    ∗ bigSep (Finset.range 6) fun r => cred (tallyAt (cell c (.cred b)) r 1))

theorem get_one (b : Bool) (k : Kd) (i n : ℕ) (c : Dev nD) :
    (Pipeline.launchCred (fun d => tallyAt (cell (nbr b d) k) i n) c : sProp 𝕄) ⊢ cred (tallyAt (cell c k) i n) :=
  Pipeline.launchCred_tallyAt k.loc (nbr b) (nbr (!b)) (nbr_nbr b) (nbr_nbr' b) i n c

theorem get_two (k k' : Kd) (b : Bool) (i n : ℕ) (c : Dev nD) :
    (Pipeline.launchCred (fun d => tallyAt (cell (nbr b d) k) i n + tallyAt (cell (nbr (!b) d) k') i n) c : sProp 𝕄)
      ⊢ iprop(cred (tallyAt (cell c k) i n) ∗ cred (tallyAt (cell c k') i n)) := by
  rw [Pipeline.launchCred_add]
  exact BIClass.sep_mono (get_one b k i n c) (get_one (!b) k' i n c)

theorem creds (c : Dev nD) : (Pipeline.launchCred due₀ c : sProp 𝕄)
    ⊢ iprop(cred (tallyAt (cell c .bar) 0 2) ∗ gets true c ∗ gets false c) := by
  rw [show (due₀ : Dev nD → CellTallies nD τ sig ℕ) = fun d => due d 0 + tallyAt (cell (nbr true d) .bar) 0 1 + tallyAt (cell (nbr false d) .bar) 0 1 from rfl,
    Pipeline.launchCred_add, Pipeline.launchCred_add]
  rw [show (fun d : Dev nD => (due d 0 : CellTallies nD τ sig ℕ)) = fun d =>
      (∑ i ∈ Finset.Ico 0 7, (tallyAt (cell (nbr true d) (.recv true i)) 0 N + tallyAt (cell (nbr false d) (.recv false i)) 0 N))
        + ∑ r ∈ Finset.Ico 0 6, (tallyAt (cell (nbr false d) (.cred true)) r 1 + tallyAt (cell (nbr true d) (.cred false)) r 1) from rfl,
    Pipeline.launchCred_add,
    Pipeline.launchCred_sum (Finset.Ico 0 7) (fun i d => tallyAt (cell (nbr true d) (.recv true i)) 0 N + tallyAt (cell (nbr false d) (.recv false i)) 0 N) c,
    Pipeline.launchCred_sum (Finset.Ico 0 6) (fun r d => tallyAt (cell (nbr false d) (.cred true)) r 1 + tallyAt (cell (nbr true d) (.cred false)) r 1) c,
    ← Finset.range_eq_Ico 7, ← Finset.range_eq_Ico 6]
  iintro ⟨⟨⟨H1, H2⟩, H3⟩, H4⟩
  ihave H1 := (show (bigSep (Finset.range 7) fun i => (Pipeline.launchCred (fun d => tallyAt (cell (nbr true d) (.recv true i)) 0 N + tallyAt (cell (nbr false d) (.recv false i)) 0 N) c : sProp 𝕄))
      ⊢ bigSep (Finset.range 7) fun i => iprop(cred (tallyAt (cell c (.recv true i)) 0 N) ∗ cred (tallyAt (cell c (.recv false i)) 0 N)) from
    bigSep_each fun i _ => get_two (.recv true i) (.recv false i) true 0 N c) $$ H1
  ihave H2 := (show (bigSep (Finset.range 6) fun r => (Pipeline.launchCred (fun d => tallyAt (cell (nbr false d) (.cred true)) r 1 + tallyAt (cell (nbr true d) (.cred false)) r 1) c : sProp 𝕄))
      ⊢ bigSep (Finset.range 6) fun r => iprop(cred (tallyAt (cell c (.cred true)) r 1) ∗ cred (tallyAt (cell c (.cred false)) r 1)) from
    bigSep_each fun r _ => get_two (.cred true) (.cred false) false r 1 c) $$ H2
  ihave H1 := bigSep_unzip $$ H1
  ihave H2 := bigSep_unzip $$ H2
  icases H1 with ⟨H1, H1'⟩
  icases H2 with ⟨H2, H2'⟩
  ihave H3 := (get_one true .bar 0 1 c) $$ H3
  ihave H4 := (get_one false .bar 0 1 c) $$ H4
  ihave H5 := (show iprop(cred (tallyAt (cell c .bar) 0 1) ∗ cred (tallyAt (cell c .bar) 0 1)) ⊢ (cred (tallyAt (cell c .bar) 0 2) : sProp 𝕄) from
    (cred_add _ _).2.trans (Entails.of_eq (congrArg cred (tallyAt_add _ 0 1 1)))) $$ [H3 H4]
  · isplitl [H3] <;> iassumption
  unfold gets
  isplitl [H5]; · iexact H5
  isplitl [H1 H2]
  · isplitl [H1] <;> iassumption
  · isplitl [H1'] <;> iassumption

/-! ## Opening the cells -/

section Open

variable (ew : Dev nD → Oct F) (κ : GSem nD τ sig → ℕ)

/-- A cell opened: a position at round 0, and the round reached. -/
def opened (c : Dev nD) (k : Kd) : sProp 𝕄 := iprop(atPos ER (cell c k) 0 ∅ 0 ∗ reached ER (cell c k) 0)

/-- The unopened cell with its counter. -/
def shut (c : Dev nD) (k : Kd) : sProp 𝕄 := iprop(openTok ER (cell c k) ∗ semVal (cell c k) 0)

theorem open_cell (c : Dev nD) (k : Kd) (hk : k.ok) :
    iprop(env ew κ ∗ shut c k) ⊢ (|={Set.univ}=> opened c k : sProp 𝕄) := by
  unfold shut opened
  iintro ⟨#HE, Ho, Hv⟩
  iapply (Rounds.cell_open ER (Rd ew) (g := cell c k) (Set.mem_univ (κ (cell c k))))
  isplitr; · iapply (env_inv ew κ c k hk); iexact HE
  isplitl [Ho] <;> iassumption

/-- A direction's hops' cells opened. -/
theorem open_hops (b : Bool) (c : Dev nD) (n : ℕ) (hn : n ≤ 7) :
    iprop(env ew κ ∗ bigSep (Finset.range n) fun h => iprop(shut (F := F) c (.send b h) ∗ shut c (.recv b h)))
      ⊢ (|={Set.univ}=> bigSep (Finset.range n) fun h => iprop(opened c (.send b h) ∗ opened c (.recv b h)) : sProp 𝕄) := by
  induction n with
  | zero =>
    rw [Finset.range_zero, BI.bigSep_empty, BI.bigSep_empty]
    iintro ⟨-, H⟩
    imodintro; iexact H
  | succ n ih =>
    rw [range_succ, range_succ]
    iintro ⟨#HE, ⟨H1, H2⟩, H3⟩
    ihave H3 := (ih (by omega)) $$ [H3]
    · isplitr; · iexact HE
      iexact H3
    imod H3 with H3
    ihave H1 := (open_cell ew κ c (.send b n) (show n < 8 by omega)) $$ [H1]
    · isplitr; · iexact HE
      iexact H1
    imod H1 with H1
    ihave H2 := (open_cell ew κ c (.recv b n) (show n < 8 by omega)) $$ [H2]
    · isplitr; · iexact HE
      iexact H2
    imod H2 with H2
    imodintro
    isplitl [H1 H2]
    · isplitl [H1] <;> iassumption
    · iexact H3

/-- The hops' receive cells are at round 0. -/
theorem hops_reached (b : Bool) (c : Dev nD) :
    (bigSep (Finset.range 7) fun h => iprop(opened (F := F) c (.send b h) ∗ opened c (.recv b h)))
      ⊢ iprop((bigSep (Finset.range 7) fun h => iprop(opened (F := F) c (.send b h) ∗ atPos ER (cell c (.recv b h)) 0 ∅ 0))
        ∗ bigSep (Finset.range 7) fun h => reached ER (cell c (.recv b h)) 0) := by
  refine BIBase.Entails.trans (bigSep_each (Ψ := fun h => iprop((opened (F := F) c (.send b h) ∗ atPos ER (cell c (.recv b h)) 0 ∅ 0) ∗ reached ER (cell c (.recv b h)) 0)) fun h _ => ?_) bigSep_unzip
  unfold opened
  iintro ⟨H1, H2, H3⟩
  isplitr [H3]
  · isplitl [H1] <;> iassumption
  · iexact H3

/-- The tickets of a direction's hops, out of its opened cells, its duties and its credit. -/
theorem tickets_intro (b : Bool) (c : Dev nD) :
    iprop((bigSep (Finset.range 7) fun h => iprop(opened (F := F) c (.send b h) ∗ atPos ER (cell c (.recv b h)) 0 ∅ 0))
        ∗ (bigSep (Finset.range 7) fun h => iprop(dutyTok ER (cell c (.send b h)) 0 false ∗ dutyTok ER (cell (nbr b c) (.recv b h)) 0 false))
        ∗ bigSep (Finset.range 7) fun h => cred (tallyAt (cell c (.recv b h)) 0 N))
      ⊢ (bigSep (Finset.Ico 0 7) fun h => tickets (F := F) b h c) := by
  rw [← Finset.range_eq_Ico]
  refine BIBase.Entails.trans ((sep_mono_right bigSep_zip).trans bigSep_zip) (bigSep_each fun h _ => ?_)
  unfold opened tickets
  iintro ⟨⟨⟨H1, H2⟩, H3⟩, ⟨H4, H5⟩, H6⟩
  isplitl [H1]; · iexact H1
  isplitl [H2]; · iexact H2
  isplitl [H4]; · iexact H4
  isplitl [H3]; · iexact H3
  isplitl [H6] <;> iassumption

/-- The two semaphores of a direction that no hop uses. -/
def idle (b : Bool) (c : Dev nD) : sProp 𝕄 := iprop(semVal (cell c (.send b 7)) 0 ∗ semVal (cell c (.recv b 7)) 0)

/-- A direction opened. -/
theorem open_side (b : Bool) (c : Dev nD) :
    iprop(env ew κ ∗ share (fun sm => (openTok ER ((c : Thread nD τ), sm) : sProp 𝕄)) b ∗ share (fun sm => (semVal ((c : Thread nD τ), sm) 0 : sProp 𝕄)) b
        ∗ pays b c ∗ gets b c)
      ⊢ (|={Set.univ}=> (start b c ∗ dutyTok ER (cell (nbr b c) .bar) 0 (!b) ∗ idle b c
          ∗ (bigSep (Finset.range 7) fun h => reached ER (cell c (.recv b h)) 0) ∗ reached ER (cell c (.cred b)) 0) : sProp 𝕄) := by
  unfold share pays gets idle
  iintro ⟨#HE, ⟨Hoc, Hoh, -⟩, ⟨Hvc, Hvh, Hi⟩, ⟨Hb, Hd, Hdc⟩, Hg, Hgc⟩
  ihave Hh := (show iprop((bigSep (Finset.range 7) fun h => iprop((openTok ER (cell c (.send b h)) : sProp 𝕄) ∗ openTok ER (cell c (.recv b h))))
      ∗ bigSep (Finset.range 7) fun h => iprop((semVal (cell c (.send b h)) 0 : sProp 𝕄) ∗ semVal (cell c (.recv b h)) 0))
      ⊢ bigSep (Finset.range 7) fun h => iprop(shut (F := F) c (.send b h) ∗ shut c (.recv b h)) from
    bigSep_zip.trans (bigSep_each fun h _ => by
      unfold shut
      iintro ⟨⟨H1, H2⟩, H3, H4⟩
      isplitl [H1 H3]
      · isplitl [H1] <;> iassumption
      · isplitl [H2] <;> iassumption)) $$ [Hoh Hvh]
  · isplitl [Hoh]; · iexact Hoh
    iexact Hvh
  ihave Hh := (open_hops ew κ b c 7 (le_refl 7)) $$ [Hh]
  · isplitr; · iexact HE
    iexact Hh
  imod Hh with Hh
  ihave Hc := (open_cell ew κ c (.cred b) trivial) $$ [Hoc Hvc]
  · isplitr; · iexact HE
    unfold shut
    isplitl [Hoc]; · iexact Hoc
    iexact Hvc
  imod Hc with Hc
  ihave Hc := (show opened (F := F) c (.cred b) ⊢ iprop(atPos ER (cell c (.cred b)) 0 ∅ 0 ∗ reached ER (cell c (.cred b)) 0) from by unfold opened; exact Entails.of_eq rfl) $$ Hc
  icases Hc with ⟨Hca, #Hcr⟩
  ihave Hh := (hops_reached b c) $$ Hh
  icases Hh with ⟨Hh, Hr⟩
  ihave Ht := (tickets_intro b c) $$ [Hh Hd Hg]
  · isplitl [Hh]; · iexact Hh
    isplitl [Hd] <;> iassumption
  imodintro
  unfold start
  rw [← Finset.range_eq_Ico 6]
  isplitl [Hca Ht Hgc Hdc]
  · isplitl [Hca]; · iexact Hca
    isplitr; · iexact Hcr
    isplitl [Ht]; · iexact Ht
    isplitl [Hgc] <;> iassumption
  isplitl [Hb]; · iexact Hb
  isplitl [Hi]; · iexact Hi
  isplitl [Hr]; · iexact Hr
  iexact Hcr

/-! ## What a device holds before the kernel, and at its entry -/

/-- The records every device may consult: the cells' invariants; round 0 of every barrier. -/
def records (κ : GSem nD τ sig → ℕ) : sProp 𝕄 :=
  iprop((bigSep (barCells ∪ scCells) fun g => cellInv ER (Rd ew) (κ g) g) ∗ bigSep barCells fun g => reached ER g 0)

instance records_persistent : BI.Persistent (records ew κ) := by unfold records; infer_instance

/-- What is one device's: its barrier's position, the right to open its other cells, the duties it pays. -/
def linear (c : Dev nD) : sProp 𝕄 :=
  iprop(atPos ER (cell c .bar) 0 ∅ 0 ∗ (bigSep Finset.univ fun i : Fin 34 => openTok ER ((c : Thread nD τ), osem i))
    ∗ pays true c ∗ pays false c)

/-- Before the kernel. -/
def ghost (c : Dev nD) : sProp 𝕄 :=
  iprop((∃ κ, records ew κ) ∗ linear c ∗ cred (tallyAt (cell c .bar) 0 2) ∗ gets true c ∗ gets false c)

/-- At the kernel's entry: everything its body takes of the protocol, and the four semaphores it leaves alone. -/
def entry (c : Dev nD) : sProp 𝕄 :=
  iprop((∃ κ, env ew κ) ∗ (ready true c ∗ ready false c) ∗ startBar c ∗ start true c ∗ start false c ∗ idle true c ∗ idle false c)

omit [FloatOps F] in
theorem bar_reached' (g : GSem nD τ sig) (hg : g ∈ barCells) : (bigSep barCells fun g => (reached ER g 0 : sProp 𝕄)) ⊢ reached ER g 0 :=
  bigSep_elim hg

theorem open_all (c : Dev nD) : iprop(ghost ew c ∗ Pipeline.ownSems0 osem c ∗ levAts L lv) ⊢ (|={Set.univ}=> entry ew c : sProp 𝕄) := by
  unfold ghost linear
  iintro ⟨⟨⟨%κ, Hrec⟩, ⟨Hab, Ho, HpT, HpF⟩, Hcb, HgT, HgF⟩, Hs, #Hlev⟩
  unfold records
  icases Hrec with ⟨#HI, #HR⟩
  ihave Ho := (bigSep_osem fun sm => (openTok ER ((c : Thread nD τ), sm) : sProp 𝕄)).1 $$ Ho
  icases Ho with ⟨HoT, HoF⟩
  ihave Hs := (show Pipeline.ownSems0 osem c ⊢ _ from (bigSep_osem fun sm => (semVal ((c : Thread nD τ), sm) 0 : sProp 𝕄)).1) $$ Hs
  icases Hs with ⟨HsT, HsF⟩
  ihave HE := (show iprop((bigSep (barCells ∪ scCells) fun g => cellInv ER (Rd ew) (κ g) g) ∗ levAts L lv) ⊢ env ew κ from by unfold env; exact Entails.of_eq rfl) $$ []
  · isplitr; · iexact HI
    iexact Hlev
  icases HE with #HE
  ihave HT := (open_side ew κ true c) $$ [HoT HsT HpT HgT]
  · isplitr; · iexact HE
    isplitl [HoT]; · iexact HoT
    isplitl [HsT]; · iexact HsT
    isplitl [HpT] <;> iassumption
  imod HT with ⟨HT, HbT, HiT, #HrT, #HcT⟩
  ihave HF := (open_side ew κ false c) $$ [HoF HsF HpF HgF]
  · isplitr; · iexact HE
    isplitl [HoF]; · iexact HoF
    isplitl [HsF]; · iexact HsF
    isplitl [HpF] <;> iassumption
  imod HF with ⟨HF, HbF, HiF, #HrF, #HcF⟩
  imodintro
  unfold entry ready startBar
  isplitr; · iexists κ; iexact HE
  isplitr
  · isplitr
    · isplitr; · iexact HrT
      iexact HcF
    · isplitr; · iexact HrF
      iexact HcT
  isplitl [Hab Hcb HbT HbF]
  · isplitl [Hab]; · iexact Hab
    isplitl [Hcb]; · iexact Hcb
    isplitl [HbF]
    · isplitl [HbF]; · iexact HbF
      iapply (bar_reached' _ (bar_mem (nbr false c))); iexact HR
    · isplitl [HbT]; · iexact HbT
      iapply (bar_reached' _ (bar_mem (nbr true c))); iexact HR
  isplitl [HT]; · iexact HT
  isplitl [HF]; · iexact HF
  isplitl [HiT]; · iexact HiT
  iexact HiF

/-- At the end the kernel's own semaphores are all at zero. -/
theorem sems_back (c : Dev nD) :
    iprop((finish true c ∗ finish false c) ∗ idle true c ∗ idle false c) ⊢ (Pipeline.ownSems0 osem c : sProp 𝕄) := by
  refine BIBase.Entails.trans ?_ (show _ ⊢ Pipeline.ownSems0 osem c from (bigSep_osem fun sm => (semVal ((c : Thread nD τ), sm) 0 : sProp 𝕄)).2)
  unfold finish idle share
  iintro ⟨⟨⟨H1, H2⟩, H3, H4⟩, H5, H6⟩
  isplitl [H1 H2 H5]
  · isplitl [H1]; · iexact H1
    isplitl [H2]; · iexact H2
    iexact H5
  · isplitl [H3]; · iexact H3
    isplitl [H4]; · iexact H4
    iexact H6

end Open

end Cert.MoeRing

end
-- ==== Proof.Region.lean ====
/-
# The kernel's region

What the five windows hold before and after the body, the body's run as the pipeline asks for it, and the region as a
segment of the program.

-/
module

public import proofs.«01_k».proof.Proof.Deal
public import proofs.«01_k».proof.Proof.Gen.KernelIdeal.Frame
public import Idealize.ShloMosaic.Lib.Pipeline.RegionTalk

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The windows -/

/-- What the body reads at device `c`: its rows, their weights, their experts' numbers. -/
abbrev xIn (c : Dev nD) : Vec F S2048x512 .bf16 := iblk m c 0 t0_0
abbrev wIn (c : Dev nD) : Vec F S2048x2 .f32 := iblk m c 1 t0_0
abbrev iIn (c : Dev nD) : Vec F S2048x2 .i32 := iblk m c 2 t0_0
/-- Every device's experts. -/
abbrev eIn (c : Dev nD) : Oct F := iblk m c 3 t0_0

/-- What the body leaves in the result's window. -/
def outOf (c : Dev nD) : FVec F S2048x1024 .f32 := outAfter (xIn m c) (iIn m c) (wIn m c) (eIn m) c 8

/-- The kernel's proof data: the arrays as the host operations leave them, the windows after the body, and what goes
    along: the protocol's resources in, the counters out. -/
def dat (c : Dev nD) : Dat τ (Elt F) ℕ ℕ UU ℕ cfg0 c where
  A w := V m c (Pipeline.arrRef spec0 w)
  after w t := match w with
    | 0 => iblk m c 0 t
    | 1 => iblk m c 1 t
    | 2 => iblk m c 2 t
    | 3 => iblk m c 3 t
    | 4 => outOf m c
    | ⟨_ + 5, h⟩ => absurd h (Nat.not_lt.2 (Nat.le_add_left _ _))
  Φ t := if t.val = 0 then iprop(entry (eIn m) c ∗ rings c ∗ ∃ r, prngReg c r)
    else iprop(semVal (cell c .bar) 0 ∗ (finish true c ∗ finish false c) ∗ (idle true c ∗ idle false c) ∗ rings c ∗ ∃ r, prngReg c r)
  q _ := fullShare
  owed t := if t.val = 0 then due₀ c else 0

theorem before_x (c : Dev nD) (t : Fin cfg0.N) (d) : (dat m c).before 0 t d = iblk m c 0 t :=
  ((dat m c).before_in_eq_fetched 0 rfl (fun _ => rfl) (fun _ _ _ => rfl) (fun _ => rfl) t d).trans rfl
theorem before_w (c : Dev nD) (t : Fin cfg0.N) (d) : (dat m c).before 1 t d = iblk m c 1 t :=
  ((dat m c).before_in_eq_fetched 1 rfl (fun _ => rfl) (fun _ _ _ => rfl) (fun _ => rfl) t d).trans rfl
theorem before_i (c : Dev nD) (t : Fin cfg0.N) (d) : (dat m c).before 2 t d = iblk m c 2 t :=
  ((dat m c).before_in_eq_fetched 2 rfl (fun _ => rfl) (fun _ _ _ => rfl) (fun _ => rfl) t d).trans rfl
theorem before_e (c : Dev nD) (t : Fin cfg0.N) (d) : (dat m c).before 3 t d = iblk m c 3 t :=
  ((dat m c).before_in_eq_fetched 3 rfl (fun _ => rfl) (fun _ _ _ => rfl) (fun _ => rfl) t d).trans rfl

theorem owed_first (c : Dev nD) (t : Fin (cfg0.N + 1)) (h : t.val = 0) : (dat m c).owed t = due₀ c := if_pos h
theorem owed_last (c : Dev nD) (t : Fin (cfg0.N + 1)) (h : t.val ≠ 0) : (dat m c).owed t = 0 := if_neg h
theorem phi_first (c : Dev nD) (t : Fin (cfg0.N + 1)) (h : t.val = 0) :
    (dat m c).Φ t = iprop(entry (eIn m) c ∗ rings c ∗ ∃ r, prngReg c r) := if_pos h
theorem phi_last (c : Dev nD) (t : Fin (cfg0.N + 1)) (h : t.val ≠ 0) :
    (dat m c).Φ t = iprop(semVal (cell c .bar) 0 ∗ (finish true c ∗ finish false c) ∗ (idle true c ∗ idle false c) ∗ rings c ∗ ∃ r, prngReg c r) :=
  if_neg h

theorem owesAt_intro (c : Dev nD) (t : Fin (cfg0.N + 1)) (O : CellTallies nD τ sig ℕ) (h0 : (dat m c).owed t = O) :
    owing c O ⊢ ((dat m c).owesAt 0 t : sProp 𝕄) := by
  unfold owing Dat.owesAt Pipeline.owesWithin Dat.bound; rw [h0]
  iintro ⟨%W, HO⟩; iexists W; isplitr; · ipureintro; exact fun _ _ => Or.inl trivial
  iexact HO
theorem owesAt_elim (c : Dev nD) (t : Fin (cfg0.N + 1)) (O : CellTallies nD τ sig ℕ) (h0 : (dat m c).owed t = O) :
    ((dat m c).owesAt 0 t : sProp 𝕄) ⊢ owing c O := by
  unfold owing Dat.owesAt Pipeline.owesWithin; rw [h0]
  iintro ⟨%W, -, HO⟩; iexists W; iexact HO

theorem comp_take (c : Dev nD) (x : Vec F S2048x512 .bf16) (idx : Vec F S2048x2 .i32) (w : Vec F S2048x2 .f32) (A : FVec F S2048x1024 .f32) :
    comp c x idx w A ⊢ iprop((((c : Thread nD τ).loc cc0_stg0_0) ↦{fullShare} x) ∗ (((c : Thread nD τ).loc cc0_stg1_0) ↦{fullShare} w)
      ∗ (((c : Thread nD τ).loc cc0_stg2_0) ↦{fullShare} idx) ∗ (((c : Thread nD τ).loc cc0_stg4_0) ↦{fullShare} A)) := by
  unfold comp; exact Entails.of_eq rfl
theorem comp_give (c : Dev nD) (x : Vec F S2048x512 .bf16) (idx : Vec F S2048x2 .i32) (w : Vec F S2048x2 .f32) (A : FVec F S2048x1024 .f32) :
    iprop((((c : Thread nD τ).loc cc0_stg0_0) ↦{fullShare} x) ∗ (((c : Thread nD τ).loc cc0_stg1_0) ↦{fullShare} w)
      ∗ (((c : Thread nD τ).loc cc0_stg2_0) ↦{fullShare} idx) ∗ (((c : Thread nD τ).loc cc0_stg4_0) ↦{fullShare} A)) ⊢ comp c x idx w A := by
  unfold comp; exact Entails.of_eq rfl

/-- The body's run, from the entry's resources. -/
theorem wp_entry (c : Dev nD) (A : FVec F S2048x1024 .f32) :
    iprop(entry (eIn m) c ∗ rings c ∗ owing c (due₀ c) ∗ comp c (xIn m c) (iIn m c) (wIn m c) A
        ∗ (((c : Thread nD τ).loc cc0_stg3_0) ↦{fullShare} (eIn m c)))
      ⊢ wp frame (wpE (defs₀ (F := F)) 𝒱₀ (c : Thread nD τ) none) Set.univ body
          fun _ => iprop((comp c (xIn m c) (iIn m c) (wIn m c) (outOf m c) ∗ (((c : Thread nD τ).loc cc0_stg3_0) ↦{fullShare} (eIn m c)))
            ∗ owing c 0 ∗ semVal (cell c .bar) 0 ∗ (finish true c ∗ finish false c) ∗ (idle true c ∗ idle false c) ∗ rings c) := by
  unfold entry
  iintro ⟨⟨⟨%κ, #HE⟩, Hr, HsB, HsT, HsF, HiT, HiF⟩, Hg, HO, HC, HW⟩
  iapply (wp_wand_r Idealize.ShloMosaic.frame (wpE (defs₀ (F := F)) 𝒱₀ (c : Thread nD τ) none) Set.univ)
  isplitr [HiT HiF]
  · iapply (wp_body (eIn m) κ c (xIn m c) (iIn m c) (wIn m c) A)
    isplitr; · iexact HE
    isplitl [Hr]; · iexact Hr
    isplitl [HC]; · iexact HC
    isplitl [HW]; · iexact HW
    isplitl [Hg]; · iexact Hg
    isplitl [HO]; · iexact HO
    isplitl [HsB]; · iexact HsB
    isplitl [HsT] <;> iassumption
  iintro %_ ⟨HC, HW, Hg, HO, Hb, HfT, HfF⟩
  isplitl [HC HW]
  · isplitl [HC]
    · iexact HC
    · iexact HW
  isplitl [HO]; · iexact HO
  isplitl [Hb]; · iexact Hb
  isplitl [HfT HfF]
  · isplitl [HfT] <;> iassumption
  isplitl [HiT HiF]
  · isplitl [HiT] <;> iassumption
  iexact Hg

set_option maxHeartbeats 1000000 in
theorem body_obligation (c : Dev nD) : BodyObligation (dat m c) (defs₀ (F := F)) 𝒱₀ 0 Set.univ := fun t => by
  rw [fin_N0 t]
  rw [bigSep_W0, bigSep_W0]
  rw [phi_first m c t0_0.castSucc rfl, phi_last m c t0_0.succ (by decide)]
  have ho : (dat m c).owesAt 0 t0_0.castSucc ⊢ (owing c (due₀ c) : sProp 𝕄) := owesAt_elim m c _ _ (owed_first m c _ rfl)
  have ho' : (owing c 0 : sProp 𝕄) ⊢ (dat m c).owesAt 0 t0_0.succ := owesAt_intro m c _ _ (owed_last m c _ (by decide))
  simp only [before_x, before_w, before_i, before_e]
  show iprop((entry (eIn m) c ∗ rings c ∗ ∃ r, prngReg c r) ∗ (dat m c).owesAt 0 t0_0.castSucc
      ∗ (∃ d, owns (c : Thread nD τ) (Memref.whole cc0_stg0_0) fullShare (xIn m c))
      ∗ (∃ d, owns (c : Thread nD τ) (Memref.whole cc0_stg1_0) fullShare (wIn m c))
      ∗ (∃ d, owns (c : Thread nD τ) (Memref.whole cc0_stg2_0) fullShare (iIn m c))
      ∗ (∃ d, owns (c : Thread nD τ) (Memref.whole cc0_stg3_0) fullShare (eIn m c))
      ∗ (∃ d, owns (c : Thread nD τ) (Memref.whole cc0_stg4_0) fullShare ((dat m c).before 4 t0_0 d)))
    ⊢ wp frame (wpE (defs₀ (F := F)) 𝒱₀ (c : Thread nD τ) none) Set.univ body
      fun _ => iprop((semVal (cell c .bar) 0 ∗ (finish true c ∗ finish false c) ∗ (idle true c ∗ idle false c) ∗ rings c ∗ ∃ r, prngReg c r)
        ∗ (dat m c).owesAt 0 t0_0.succ
        ∗ owns (c : Thread nD τ) (Memref.whole cc0_stg0_0) fullShare (xIn m c)
        ∗ owns (c : Thread nD τ) (Memref.whole cc0_stg1_0) fullShare (wIn m c)
        ∗ owns (c : Thread nD τ) (Memref.whole cc0_stg2_0) fullShare (iIn m c)
        ∗ owns (c : Thread nD τ) (Memref.whole cc0_stg3_0) fullShare (eIn m c)
        ∗ owns (c : Thread nD τ) (Memref.whole cc0_stg4_0) fullShare (outOf m c))
  simp only [owns_whole]
  iintro ⟨⟨He, Hg, Hp⟩, HO, ⟨%_, H0⟩, ⟨%_, H1⟩, ⟨%_, H2⟩, ⟨%_, H3⟩, ⟨%d, H4⟩⟩
  ihave HO := ho $$ HO
  iapply (wp_wand_r Idealize.ShloMosaic.frame (wpE (defs₀ (F := F)) 𝒱₀ (c : Thread nD τ) none) Set.univ)
  isplitr [Hp]
  · iapply (wp_entry m c ((dat m c).before 4 t0_0 d))
    isplitl [He]; · iexact He
    isplitl [Hg]; · iexact Hg
    isplitl [HO]; · iexact HO
    isplitr [H3]
    · iapply (comp_give c (xIn m c) (iIn m c) (wIn m c) _)
      isplitl [H0]; · iexact H0
      isplitl [H1]; · iexact H1
      isplitl [H2]; · iexact H2
      iexact H4
    · iexact H3
  iintro %_ ⟨⟨HC, H3⟩, HO, Hb, Hf, Hi, Hg⟩
  ihave HC := (comp_take c (xIn m c) (iIn m c) (wIn m c) (outOf m c)) $$ HC
  icases HC with ⟨H0, H1, H2, H4⟩
  ihave HO := ho' $$ HO
  isplitl [Hb Hf Hi Hg Hp]
  · isplitl [Hb]; · iexact Hb
    isplitl [Hf]; · iexact Hf
    isplitl [Hi]; · iexact Hi
    isplitl [Hg]; · iexact Hg
    iexact Hp
  isplitl [HO]; · iexact HO
  isplitl [H0]; · iexact H0
  isplitl [H1]; · iexact H1
  isplitl [H2]; · iexact H2
  isplitl [H3]; · iexact H3
  iexact H4

/-! ## The buffers -/

/-- The buffers the program's host part works on. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- Every buffer at the start; after the host operations; at the end. -/
def V₀ (c : Dev nD) : Valuation τ sig (Elt F) := fun b => m (c, b)
def V₁ (c : Dev nD) : Valuation τ sig (Elt F) :=
  StableHlo.after (List.flatten [hostOps0, hostOps0_1, hostOps0_2, hostOps0_3, hostOps0_4]) (V₀ m c)
def V₂ (c : Dev nD) : Valuation τ sig (Elt F) :=
  Function.update (V₁ m c) (Proc.devRef .tc (Pipeline.arrRef spec0 4)) ((dat m c).arrAt 4 cfg0.N)

theorem V₁_arr (c : Dev nD) (w : Fin 5) : (dat m c).arrAt w 0 = V₁ m c (Proc.devRef .tc (Pipeline.arrRef spec0 w)) := rfl

theorem arr_ne : ∀ w : Fin 5, w ≠ 4 → (Proc.devRef .tc (Pipeline.arrRef spec0 w) : DevRef τ sig) ≠ Proc.devRef .tc (Pipeline.arrRef spec0 4) := by
  decide

theorem V₂_arr (c : Dev nD) (w : Fin 5) : (dat m c).arrAt w cfg0.N = V₂ m c (Proc.devRef .tc (Pipeline.arrRef spec0 w)) := by
  by_cases h : w = 4
  · subst h; unfold V₂; rw [Function.update_self]
  · unfold V₂
    rw [Function.update_of_ne (arr_ne w h), ← V₁_arr]
    have hw : (cfg0.win w).isOut = false := by revert w; decide
    rw [(dat m c).arrAt_in w hw, (dat m c).arrAt_in w hw]

theorem mem_arrRefs (w : Fin 5) : (Proc.devRef .tc (Pipeline.arrRef spec0 w) : DevRef τ sig) ∈ Pipeline.arrRefs (τ := τ) spec0 := by
  unfold Pipeline.arrRefs
  exact Finset.mem_map_of_mem _ (Finset.mem_image_of_mem _ (Finset.mem_univ w))

theorem arrRefs_sub : Pipeline.arrRefs (τ := τ) spec0 ⊆ bufs := by decide

theorem V₂_rest (c : Dev nD) : ∀ b ∈ (bufs \ Pipeline.arrRefs (τ := τ) spec0) \ ∅, V₂ m c b = V₁ m c b := fun b hb => by
  unfold V₂
  rw [Function.update_of_ne]
  rintro rfl
  exact (Finset.mem_sdiff.mp (Finset.mem_sdiff.mp hb).1).2 (mem_arrRefs 4)

end Cert.MoeRing

end
-- ==== Proof.Launch.lean ====
/-
# The run

The program as its segments, the launch that deals every device its share, and the run: from any memory with zero
counters the program ends with its arguments unchanged, the result as computed and every counter at zero.

-/
module

public import proofs.«01_k».proof.Proof.Region

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

/-! ## The host operations -/

/-- Operations on the TensorCore's buffers work on the unscoped ones. -/
theorem ops_sub {ops : List (HloOp τ sig (Elt F))} (h : ops.Forall fun op => op.bufs ⊆ StableHlo.tcRefs τ sig) : ∀ op ∈ ops, op.bufs ⊆ bufs :=
  fun op ho => Pipeline.sub_ucRefs op (List.forall_iff_forall_mem.mp h op ho)
theorem ops_fresh {ops : List (HloOp τ sig (Elt F))} (h : ops.Forall fun op => op.fresh = ∅) : ∀ op ∈ ops, op.fresh = ∅ :=
  fun op ho => List.forall_iff_forall_mem.mp h op ho

/-- What rides beside the buffers up to the region. -/
def R (c : Dev nD) : sProp 𝕄 := iprop(ghost (eIn m) c ∗ (∃ r, prngReg c r) ∗ owing c (due₀ c))

def U1 (c : Dev nD) : Valuation τ sig (Elt F) := StableHlo.after hostOps0 (V₀ m c)
def U2 (c : Dev nD) : Valuation τ sig (Elt F) := StableHlo.after hostOps0_1 (U1 m c)
def U3 (c : Dev nD) : Valuation τ sig (Elt F) := StableHlo.after hostOps0_2 (U2 m c)
def U4 (c : Dev nD) : Valuation τ sig (Elt F) := StableHlo.after hostOps0_3 (U3 m c)

theorem after_join (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

theorem V₁_eq (c : Dev nD) : V₁ m c = StableHlo.after hostOps0_4 (U4 m c) := by
  unfold V₁ U4 U3 U2 U1
  rw [List.flatten_cons, List.flatten_cons, List.flatten_cons, List.flatten_cons, List.flatten_cons, List.flatten_nil, List.append_nil,
    after_join, after_join, after_join, after_join]

def seg0 : ℍ := Pipeline.HostSeg.ofOps _ _ _ _ _ bufs hostOps0 (ops_sub hostOps0_sub) (ops_fresh hostOps0_fresh) (V₀ m) (R m)
def seg1 : ℍ := Pipeline.HostSeg.ofOps _ _ _ _ _ bufs hostOps0_1 (ops_sub hostOps0_1_sub) (ops_fresh hostOps0_1_fresh) (U1 m) (R m)
def seg2 : ℍ := Pipeline.HostSeg.ofOps _ _ _ _ _ bufs hostOps0_2 (ops_sub hostOps0_2_sub) (ops_fresh hostOps0_2_fresh) (U2 m) (R m)
def seg3 : ℍ := Pipeline.HostSeg.ofOps _ _ _ _ _ bufs hostOps0_3 (ops_sub hostOps0_3_sub) (ops_fresh hostOps0_3_fresh) (U3 m) (R m)
def seg4 : ℍ := Pipeline.HostSeg.ofOps _ _ _ _ _ bufs hostOps0_4 (ops_sub hostOps0_4_sub) (ops_fresh hostOps0_4_fresh) (U4 m) (R m)

/-! ## The region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem held_none (c : Dev nD) (W : Valuation τ sig (Elt F)) : (StableHlo.held (c.tc : Thread nD τ) ∅ W : sProp 𝕄) = BI.emp := by
  unfold StableHlo.held
  exact BI.bigSep_empty

theorem rest_eq (c : Dev nD) : (Pipeline.scopedRest (Ix := ℕ) (Name := ℕ) (U := UU) (Lvl := ℕ) (Val := Elt F) spec0 c : sProp 𝕄) = rings c :=
  scopedRest0_eq c

theorem region_in (c : Dev nD) :
    iprop(Pipeline.scopedRest (Pipeline.pin (pcfgs (F := F)) adm 0).spec c ∗ (∃ r, prngReg c r)
      ∗ StableHlo.held (c.tc : Thread nD τ) ∅ (V₁ m c) ∗ entry (eIn m) c) ⊢ (pdats m 0 c).Φ 0 := by
  rw [show (pdats m 0 c).Φ 0 = iprop(entry (eIn m) c ∗ rings c ∗ ∃ r, prngReg c r) from phi_first m c 0 rfl, held_none]
  iintro ⟨Hs, Hp, -, He⟩
  isplitl [He]; · iexact He
  isplitl [Hs]
  · iapply (Entails.of_eq (rest_eq c)) $$ Hs
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (cell c .bar) 0) := by
  rw [show (pdats m 0 c).Φ (Fin.last _) = iprop(semVal (cell c .bar) 0 ∗ (finish true c ∗ finish false c) ∗ (idle true c ∗ idle false c)
      ∗ rings c ∗ ∃ r, prngReg c r) from phi_last m c (Fin.last cfg0.N) (by decide), held_none]
  iintro ⟨Hb, Hf, Hi, Hg, Hp⟩
  isplitl [Hg]
  · iapply (Entails.of_eq (rest_eq c).symm) $$ Hg
  isplitl [Hp]; · iexact Hp
  isplitr; · iempintro
  isplitl [Hf Hi]
  · iapply (sems_back c)
    isplitl [Hf]; · iexact Hf
    iexact Hi
  iexact Hb

open Idealize.ShloMosaic.Pipeline (tallyAt_pos) in
/-- What is owed at launch sits above the staging cells' level. -/
theorem due₀_above (c : Dev nD) (g : GSem nD τ sig) (i : ℕ) (h : 0 < due₀ c g i) : i ∈ L g ∧ 0 < lv g i := by
  unfold due₀ at h
  rw [Pi.add_apply, Finsupp.add_apply] at h
  rcases pos_add h with h | h
  · rw [Pi.add_apply, Finsupp.add_apply] at h
    rcases pos_add h with h | h
    · exact ⟨(due_above h).1, Nat.lt_of_le_of_lt (Nat.zero_le _) (due_above h).2⟩
    · obtain ⟨rfl, rfl⟩ := tallyAt_pos h
      exact ⟨mem_L _ _ (by omega), by rw [lv_cell _ .bar trivial]; exact Nat.one_pos⟩
  · obtain ⟨rfl, rfl⟩ := tallyAt_pos h
    exact ⟨mem_L _ _ (by omega), by rw [lv_cell _ .bar trivial]; exact Nat.one_pos⟩

theorem owed_above (c : Dev nD) (t : Fin (cfg0.N + 1)) (g : GSem nD τ sig) (i : ℕ) (h : 0 < (dat m c).owed t g i) : i ∈ L g ∧ 0 < lv g i := by
  by_cases ht : t.val = 0
  · rw [owed_first m c t ht] at h; exact due₀_above c g i h
  · rw [owed_last m c t ht] at h; exact absurd h (Nat.lt_irrefl 0)

/-- The staging cells are at the lowest level. -/
theorem lv_staging (c : Dev nD) : ∀ (w : Fin cfg0.W) (s : Fin (cfg0.win w).nbuf),
    (dec (.dma ((cfg0.win w).sem s)) : Option Kd) = none := by decide

theorem cut : Pipeline.LevelCutOwed (pcfgs (F := F)) adm (pdats m) 0 L lv 0 (fun _ => 0) where
  hι c w s := mem_L c _ (by omega)
  hιb c w s := by
    show (dec (.dma ((cfg0.win w).sem s))).elim 0 _ ≤ 0
    rw [lv_staging c w s]; exact Nat.le_refl 0
  hD c t g i h := owed_above m c t g i h

set_option backward.isDefEq.respectTransparency.types false in
def reg : ℝ𝕊 0 :=
  Pipeline.RegionSeg.ofTalk (pcfgs (F := F)) adm (pdats m) 0 defs₀ 𝒱₀ L lv 0 osem (by decide : Pipeline.OwnSemFacts spec0 osem)
    ∅ (bufs \ Pipeline.arrRefs (τ := τ) spec0) (Finset.empty_subset _) kit rfl (fun c => (body_obligation m c).loose)
    (fun _ => 0) due₀ (fun c => (owed_first m c 0 rfl).trans (zero_add _).symm) (fun c => owed_last m c (Fin.last cfg0.N) (by decide)) (fun _ => rfl)
    (fun c w => by show (dat m c).share w = fullShare; unfold Dat.share; split <;> rfl)
    (V₁ m) (V₂ m) (V₂_rest m)
    (ghost (eIn m)) (fun c => semVal (cell c .bar) 0) (entry (eIn m)) (fun c => semVal (cell c .bar) 0) (open_all (eIn m)) (region_in m) (region_out m)
    (fun c => by iintro H; imodintro; iexact H)
    (fun _ => 0) (cut m) (fun _ => iprop(emp))
    (V₁_arr m) (V₂_arr m)

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) (bufs \ Pipeline.arrRefs (τ := τ) spec0) (V₁ m c) ∗ emp) ∗ ghost (eIn m) c
    ∗ ∃ Wd, owes (c : Thread nD τ) (0 + due₀ c) Wd)
  rw [StableHlo.held_sub_split (c.tc : Thread nD τ) arrRefs_sub, zero_add]
  unfold R owing
  iintro ⟨⟨Ha, Hh⟩, Hg, Hp, HO⟩
  isplitl [Ha]; · iexact Ha
  isplitl [Hp]; · iexact Hp
  isplitl [Hh]
  · isplitl [Hh]; · iexact Hh
    iempintro
  isplitl [Hg]; · iexact Hg
  iexact HO

/-- What a device ends with. -/
abbrev Tₙ (c : Dev nD) : sProp 𝕄 := iprop(StableHlo.held (c : Thread nD τ) bufs (V₂ m c) ∗ semVal (cell c .bar) 0)

theorem reg_post (c : Dev nD) : (reg m).post c
    ⊢ iprop(Tₙ m c ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) (bufs \ Pipeline.arrRefs (τ := τ) spec0) (V₂ m c) ∗ emp) ∗ semVal (cell c .bar) 0
    ∗ ∃ Wd, owes (c : Thread nD τ) (0 : CellTallies nD τ sig ℕ) Wd) ⊢ _
  dsimp only [Tₙ]
  rw [StableHlo.held_sub_split (c.tc : Thread nD τ) arrRefs_sub (V₂ m c)]
  iintro ⟨Ha, -, ⟨Hh, -⟩, Hb, HO⟩
  isplitr [HO]
  · isplitl [Ha Hh]
    · isplitl [Ha] <;> iassumption
    · iexact Hb
  · iexact HO

/-- The program as its segments. -/
def segs : List (Pipeline.Seg (pcfgs (F := F)) adm (pdats m) 0 defs₀ 𝒱₀ L lv) :=
  [.host (seg0 m), .host (seg1 m), .host (seg2 m), .host (seg3 m), .host (seg4 m), .region (reg m)]

theorem main_eq (c : Dev nD) : main (F := F) c = Pipeline.Seg.run (segs m) :=
  (main_chain c).trans rfl

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch element: the pipeline's at its staging cells, the exchange's at its own. -/
def u₀ : UU :=
  (initOf (Pipeline.cells (Pipeline.pin (pcfgs (F := F)) adm) cellOf_inj) (Pipeline.launchToks (Pipeline.pin (pcfgs (F := F)) adm) cellOf_inj),
    launchOf barCells scCells toks)

/-- A resource dealt whole to device 0. -/
def first (X : sProp 𝕄) (c : Dev nD) : sProp 𝕄 := if c = 0 then X else iprop(emp)
theorem bigSep_first (X : sProp 𝕄) : bigSep Finset.univ (first X) = X := by
  rw [bigSep_univ_at _ (0 : Dev nD), bigSep_congr (s := Finset.univ.erase 0) (Ψ := fun _ => (BI.emp : sProp 𝕄))
      fun c hc => by unfold first; rw [if_neg (Finset.ne_of_mem_erase hc)]; rfl, BI.bigSep_emp_const]
  unfold first; rw [if_pos rfl]
  exact BI.equiv_iff.mp sep_emp

def G : Dev nD → sProp 𝕄 := first (BI.own (ER (launchOf barCells scCells toks)))

theorem unscopedSems0_eq (c : Dev nD) : (unscopedSems0 c : sProp 𝕄) = semVal (cell c .bar) 0 := by
  unfold unscopedSems0
  rw [show (Finset.univ.filter fun sm : SemLoc sig => ¬ sm.isScoped .tc) = {SemLoc.reg barS} from by decide, BI.bigSep_singleton]
  rfl

/-- What a device starts the program with. -/
abbrev T₀ (c : Dev nD) : sProp 𝕄 := iprop(StableHlo.held (c : Thread nD τ) bufs (V₀ m c) ∗ R m c)

/-- The part of it that is not the exchange's ghost state. -/
def bundle (c : Dev nD) : sProp 𝕄 :=
  iprop(StableHlo.held (c : Thread nD τ) bufs (V₀ m c) ∗ (cred (tallyAt (cell c .bar) 0 2) ∗ gets true c ∗ gets false c)
    ∗ owes (c : Thread nD τ) (due₀ c) ∅ ∗ ∃ r, prngReg c r)

theorem T₀_intro (κ : GSem nD τ sig → ℕ) (c : Dev nD) : iprop(records (eIn m) κ ∗ (linear c ∗ bundle m c)) ⊢ T₀ m c := by
  unfold bundle T₀ R ghost owing
  iintro ⟨#HR, Hl, Hh, Hc, HO, Hp⟩
  isplitl [Hh]; · iexact Hh
  isplitl [Hl Hc]
  · isplitr; · iexists κ; iexact HR
    isplitl [Hl]; · iexact Hl
    iexact Hc
  isplitl [Hp]; · iexact Hp
  iexists ∅; iexact HO

theorem core_share (c : Dev nD) : iprop(unscopedBufs c (fun b => m ((c : Thread nD τ).loc b)) ∗ unscopedSems0 c
      ∗ owes (c : Thread nD τ) (due₀ c) ∅ ∗ Pipeline.launchCred due₀ c ∗ prngReg c (ρ c) ∗ G c)
    ⊢ (iprop(bundle m c ∗ (semVal (cell c .bar) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem bar_vals : bigSep Finset.univ (fun c : Dev nD => (semVal (cell c .bar) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem bar_ats : bigSep barCells (fun g => (atPos ER g 0 ∅ 0 : sProp 𝕄)) ⊢ bigSep Finset.univ (fun c : Dev nD => (atPos ER (cell c .bar) 0 ∅ 0 : sProp 𝕄)) :=
  Entails.of_eq (bigSep_map (s := Finset.univ) barEmb (Φ := fun g : GSem nD τ sig => (atPos ER g 0 ∅ 0 : sProp 𝕄)))
theorem sc_opens : bigSep scCells (fun g => (openTok ER g : sProp 𝕄))
    ⊢ bigSep Finset.univ (fun c : Dev nD => bigSep Finset.univ fun i : Fin 34 => (openTok ER ((c : Thread nD τ), osem i) : sProp 𝕄)) :=
  Entails.of_eq (by rw [bigSep_map, bigSep_univ_prod]; rfl)

theorem cores_share :
    (bigSep Finset.univ fun c : Dev nD => iprop(unscopedBufs c (fun b => m ((c : Thread nD τ).loc b)) ∗ unscopedSems0 c
      ∗ owes (c : Thread nD τ) (due₀ c) ∅ ∗ Pipeline.launchCred due₀ c ∗ prngReg c (ρ c) ∗ G c))
      ⊢ (bigSep Finset.univ fun c : Dev nD => iprop(bundle m c ∗ (semVal (cell c .bar) 0 ∗ G c)) : sProp 𝕄) :=
  bigSep_each fun c _ => core_share m ρ c

/-- The launch's one step: the cells' invariants, and every device's share. -/
theorem init :
    iprop((bigSep Finset.univ fun c : Dev nD => iprop(unscopedBufs c (fun b => m ((c : Thread nD τ).loc b)) ∗ unscopedSems0 c
          ∗ owes (c : Thread nD τ) (due₀ c) ∅ ∗ Pipeline.launchCred due₀ c ∗ prngReg c (ρ c) ∗ G c)) ∗ levAts L lv)
      ⊢ (|={Set.univ}=> bigSep Finset.univ (T₀ m) : sProp 𝕄) := by
  iintro ⟨H, -⟩
  ihave H' := (cores_share m ρ) $$ H
  ihave H2 := bigSep_unzip $$ H'; icases H2 with ⟨HB, H3⟩
  ihave H4 := bigSep_unzip $$ H3; icases H4 with ⟨Hv, HG⟩
  ihave Hu := (show bigSep Finset.univ (G (F := F)) ⊢ BI.own (ER (launchOf barCells scCells toks)) from
    Entails.of_eq (bigSep_first (F := F) (BI.own (ER (launchOf barCells scCells toks))))) $$ HG
  imod (Rounds.fund_launch ER (Rd (eIn m)) disjoint_cells (fun g _ h => h) toks) $$ [Hv Hu] with ⟨%κ, -, #Hinv, #Hr, Hat, Hopen, Htok⟩
  · isplitl [Hv]
    · iapply bar_vals $$ Hv
    · iexact Hu
  imodintro
  iapply (bigSep_with_persistent (R := records (eIn m) κ) (Φ := fun c => iprop(linear c ∗ bundle m c)) fun c _ => T₀_intro m κ c)
  isplitr
  · unfold records
    isplitr; · iexact Hinv
    iexact Hr
  iapply bigSep_zip
  isplitr [HB]
  · unfold linear
    iapply bigSep_zip; isplitl [Hat]; · iapply bar_ats $$ Hat
    iapply bigSep_zip; isplitl [Hopen]; · iapply sc_opens $$ Hopen
    iapply (Entails.of_eq (toks_eq (F := F))) $$ Htok
  · iexact HB

/-! ## The run -/

/-- The buffers the claims speak of: the four arguments and the result. -/
abbrev named : Finset (DevRef τ sig) :=
  {Proc.devRef .tc main_arg0, Proc.devRef .tc main_arg1, Proc.devRef .tc main_arg2, Proc.devRef .tc main_arg3, Proc.devRef .tc main_v28}
theorem named_sub : named ⊆ bufs := by decide

theorem named_eq (c : Dev nD) (W : Valuation τ sig (Elt F)) : (StableHlo.held (c : Thread nD τ) named W : sProp 𝕄)
    = iprop((((c : Thread nD τ).loc main_arg0) ↦{fullShare} (W (Proc.devRef .tc main_arg0)))
      ∗ (((c : Thread nD τ).loc main_arg1) ↦{fullShare} (W (Proc.devRef .tc main_arg1)))
      ∗ (((c : Thread nD τ).loc main_arg2) ↦{fullShare} (W (Proc.devRef .tc main_arg2)))
      ∗ (((c : Thread nD τ).loc main_arg3) ↦{fullShare} (W (Proc.devRef .tc main_arg3)))
      ∗ (((c : Thread nD τ).loc main_v28) ↦{fullShare} (W (Proc.devRef .tc main_v28)))) := by
  unfold StableHlo.held
  rw [bigSep_eq_bigSepL_of_eq [Proc.devRef .tc main_arg0, Proc.devRef .tc main_arg1, Proc.devRef .tc main_arg2, Proc.devRef .tc main_arg3,
    Proc.devRef .tc main_v28] (by decide) (by decide)]
  rfl

theorem unscoped_eq : ∀ sm : SemLoc sig, sm.isScoped .tc = false → sm = .reg barS := by decide

theorem V₂_arg (c : Dev nD) (b : Ref sig .tc) (h : (Proc.devRef .tc b : DevRef τ sig) ≠ Proc.devRef .tc (Pipeline.arrRef spec0 4)) :
    V₂ m c (Proc.devRef .tc b) = V m c b := by
  unfold V₂; rw [Function.update_of_ne h]; rfl

/-- A device's final memory. -/
def Final (c : Dev nD) (mem : (ℓ : Loc nD τ sig) → Buf (Elt F) ℓ) : Prop :=
  mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_v28) = (dat m c).arrAt 4 cfg0.N

set_option backward.isDefEq.respectTransparency.types false in
/-- THE RUN: from any memory with zero counters, every weakly fair execution of the program on the eight devices ends, and at
    the end every device's arguments are as they were, its result is the window's last contents, and every counter is zero. -/
theorem run_main : θ_run defs (onTc (τ := τ) (main (F := F))) (s₀ m ρ)
    (fun r => (∀ c : Dev nD, Final m c r.2.mem) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := due₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_first]; iexact HX)
    (T₀ := T₀ m) (Tₙ := Tₙ m)
    (hch := by
      refine ⟨fun c => .rfl, fun c => .rfl, fun c => .rfl, fun c => .rfl, fun c => .rfl, fun c => ?_, fun c => reg_post m c⟩
      show iprop(StableHlo.held (c : Thread nD τ) bufs (StableHlo.after hostOps0_4 (U4 m c)) ∗ R m c) ⊢ _
      rw [← V₁_eq]
      exact reg_pre m c)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_arg2) = V₂ m c (Proc.devRef .tc main_arg2)
        ∧ s.mem ((c : Thread nD τ).loc main_arg3) = V₂ m c (Proc.devRef .tc main_arg3)
        ∧ s.mem ((c : Thread nD τ).loc main_v28) = V₂ m c (Proc.devRef .tc main_v28))
      ∧ s.sem (cell c .bar) = 0)
    (hfin := fun c s' => by
      dsimp only [Tₙ]
      rw [StableHlo.held_sub_split (c.tc : Thread nD τ) named_sub (V₂ m c), named_eq]
      iintro ⟨⟨⟨⟨H0, H1, H2, H3, H4⟩, -⟩, Hb⟩, HSI⟩
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        exact ⟨h0.trans ((V₂_arg m c main_arg0 (by decide)).trans (V_main_arg0 m c)), h1.trans ((V₂_arg m c main_arg1 (by decide)).trans (V_main_arg1 m c)),
          h2.trans ((V₂_arg m c main_arg2 (by decide)).trans (V_main_arg2 m c)), h3.trans ((V₂_arg m c main_arg3 (by decide)).trans (V_main_arg3 m c)),
          h4.trans (V₂_arr m c 4).symm⟩,
      sem_eq_zero hs fun c sm hsm => by
        obtain rfl := unscoped_eq sm hsm
        exact (h c).2⟩)

end Cert.MoeRing

end
-- ==== Proof.Sum.lean ====
/-
# The kernel's result at an index

Entry `(n, h)` of what the kernel stores is a sum over the 64 experts, each expert's output times the weights of the choices
that name it, in the order in which the two streams bring the experts round the ring.
-/
module

public import proofs.«01_k».proof.Proof.Blocks
public import Idealize.ShloMosaic.Lib.Pointwise

@[expose] public section

noncomputable section

namespace Cert.MoeRing

open Cert.KernelIdeal Cert.KernelIdeal.Gen

open Idealize.ShloMosaic
open Idealize.ShloMosaic.TcCoe

section At

variable (x : Vec Ideal S2048x512 .bf16) (idx : Vec Ideal S2048x2 .i32) (w : Vec Ideal S2048x2 .f32)

/-- What expert number `E` is weighted by at token `n`. -/
def gateAt (n : Fin 2048) (E : ℕ) : EReal :=
  (if idx (ix2 n (0 : Fin 2)) = BitVec.ofNat 32 E then w (ix2 n (0 : Fin 2)) else 0)
    + if idx (ix2 n (1 : Fin 2)) = BitVec.ofNat 32 E then w (ix2 n (1 : Fin 2)) else 0

/-- One expert's step at an index. -/
theorem mac_at (E : ℕ) (W : Vec Ideal S512x1024 .bf16) (A : FVec Ideal S2048x1024 .f32) (n : Fin 2048) (h : Fin 1024) :
    mac x idx w E W A (ix2 n h) = A (ix2 n h) + gateAt idx w n E * ∑ d : Fin 512, x (ix2 n d) * W (ix2 d h) := by
  unfold mac gate col gateAt
  pointwise
  have hc : ∀ k : Fin 2, (Fin.cons n (Fin.cons k fun a => a.elim0) : S2048x2.Idx) = ix2 n k := fun k => by
    funext a; match a with | ⟨0, _⟩ => rfl | ⟨1, _⟩ => rfl
  have hs : ∀ (a b : BitVec 32) (y : EReal), Scalar.select (IntOp.cmpi .eq a b) y 0 = if a = b then y else 0 := fun a b y => by
    by_cases hab : a = b
    · subst hab; simp [Scalar.select, IntOp.cmpi]
    · rw [if_neg hab]; simp [Scalar.select, IntOp.cmpi, beq_eq_false_iff_ne.mpr hab]
  simp only [hs]
  erw [hc 0, hc 1]

variable (W : ℕ → Fin 512 → Fin 1024 → EReal)

/-- Expert number `E`'s part of the result at an index. -/
def part (n : Fin 2048) (h : Fin 1024) (E : ℕ) : EReal := gateAt idx w n E * ∑ d : Fin 512, x (ix2 n d) * W E d h

/-- An expert of a stream is an expert of the device the stream comes from. -/
theorem wt_at (ew : Dev nD → Oct Ideal) (b : Bool) (k : ℕ) (c : Dev nD) (e : ℕ) (d : Fin 512) (h : Fin 1024) :
    wt (held ew b k c) e (ix2 d h) = ew (src b k c) (ix3 ⟨(if b then 0 else 4) + e % 4, by split <;> omega⟩ d h) := by
  unfold wt held half
  cases b
  · show ew _ _ = ew _ _
    refine congrArg _ (funext fun a => Fin.ext ?_)
    match a with
    | ⟨0, _⟩ => show 4 + 1 * (e % 4) = 4 + e % 4; omega
    | ⟨1, _⟩ => show 0 + 1 * d.val = d.val; omega
    | ⟨2, _⟩ => show 0 + 1 * h.val = h.val; omega
  · show ew _ _ = ew _ _
    refine congrArg _ (funext fun a => Fin.ext ?_)
    match a with
    | ⟨0, _⟩ => show 0 + 1 * (e % 4) = 0 + e % 4; omega
    | ⟨1, _⟩ => show 0 + 1 * d.val = d.val; omega
    | ⟨2, _⟩ => show 0 + 1 * h.val = h.val; omega

variable {W}
variable {ew : Dev nD → Oct Ideal}

/-- Four experts' steps at an index. -/
theorem four_at (hW : ∀ (s : Dev nD) (e : Fin 8) d h, ew s (ix3 e d h) = W (8 * s.val + e.val) d h) (b : Bool) (k : ℕ) (c : Dev nD)
    (A : FVec Ideal S2048x1024 .f32) (n : Fin 2048) (h : Fin 1024) (j : ℕ) (hj : j ≤ 4) :
    four x idx w (base b k c) (held ew b k c) A j (ix2 n h)
      = A (ix2 n h) + ((List.range j).map fun e => part x idx w W n h (base b k c + e)).sum := by
  induction j with
  | zero => simp [four]
  | succ j ih =>
    rw [four, mac_at, ih (by omega), List.range_succ, List.map_append, List.sum_append, ← add_assoc]
    congr 1
    simp only [List.map_cons, List.map_nil, List.sum_cons, List.sum_nil, add_zero, part]
    congr 1
    refine Finset.sum_congr rfl fun d _ => ?_
    rw [wt_at, hW]
    congr 2
    show 8 * (src b k c).val + ((if b then 0 else 4) + j % 4) = base b k c + j
    unfold base
    rw [Nat.mod_eq_of_lt (by omega), add_assoc]

/-- The experts' numbers in the order the kernel takes them. -/
def order (c : Dev nD) : ℕ → List ℕ
  | 0 => []
  | k + 1 => order c k ++ ((List.range 4).map (base true k c + ·) ++ (List.range 4).map (base false k c + ·))

/-- Each expert comes once. -/
theorem order_perm (c : Dev nD) : (order c 8).Perm (List.range 64) := by
  revert c; decide

/-- The result after `k` hops at an index. -/
theorem outAfter_at (hW : ∀ (s : Dev nD) (e : Fin 8) d h, ew s (ix3 e d h) = W (8 * s.val + e.val) d h) (c : Dev nD)
    (n : Fin 2048) (h : Fin 1024) (k : ℕ) :
    outAfter x idx w ew c k (ix2 n h) = ((order c k).map (part x idx w W n h)).sum := by
  induction k with
  | zero =>
    show k0_pay3 (F := Ideal) (ix2 n h) = 0
    unfold k0_pay3
    pointwise
  | succ k ih =>
    rw [outAfter, four_at x idx w hW, four_at x idx w hW, ih, order, List.map_append, List.map_append, List.sum_append, List.sum_append, List.map_map, List.map_map, add_assoc]
    rfl
    all_goals omega

/-- The stored result at an index, the experts in the order of their numbers. -/
theorem out_at (hW : ∀ (s : Dev nD) (e : Fin 8) d h, ew s (ix3 e d h) = W (8 * s.val + e.val) d h) (c : Dev nD)
    (n : Fin 2048) (h : Fin 1024) :
    outAfter x idx w ew c 8 (ix2 n h) = ∑ E ∈ Finset.range 64, part x idx w W n h E := by
  rw [outAfter_at x idx w hW, ((order_perm c).map _).sum_eq]
  rfl

/-- The sum over the experts keeps the two that the token names. -/
theorem parts_sum (n : Fin 2048) (h : Fin 1024) (h₀ : (idx (ix2 n (0 : Fin 2))).toNat < 64) (h₁ : (idx (ix2 n (1 : Fin 2))).toNat < 64)
    (w₀ : 0 ≤ w (ix2 n (0 : Fin 2))) (w₁ : 0 ≤ w (ix2 n (1 : Fin 2))) :
    ∑ E ∈ Finset.range 64, part x idx w W n h E
      = w (ix2 n (0 : Fin 2)) * (∑ d : Fin 512, x (ix2 n d) * W (idx (ix2 n (0 : Fin 2))).toNat d h)
        + w (ix2 n (1 : Fin 2)) * ∑ d : Fin 512, x (ix2 n d) * W (idx (ix2 n (1 : Fin 2))).toNat d h := by
  have hb : ∀ (v : BitVec 32) (E : ℕ), E ∈ Finset.range 64 → (v = BitVec.ofNat 32 E ↔ v.toNat = E) := fun v E hE => by
    have := Finset.mem_range.mp hE
    constructor
    · rintro rfl; simp; omega
    · rintro rfl; simp
  have hE : ∀ E ∈ Finset.range 64, part x idx w W n h E
      = (if (idx (ix2 n (0 : Fin 2))).toNat = E then w (ix2 n (0 : Fin 2)) * ∑ d : Fin 512, x (ix2 n d) * W E d h else 0)
        + if (idx (ix2 n (1 : Fin 2))).toNat = E then w (ix2 n (1 : Fin 2)) * ∑ d : Fin 512, x (ix2 n d) * W E d h else 0 := fun E hE => by
    unfold part gateAt
    rw [EReal.right_distrib_of_nonneg (by split <;> simp [w₀]) (by split <;> simp [w₁])]
    simp only [hb _ E hE, ite_mul, zero_mul]
  rw [Finset.sum_congr rfl hE, Finset.sum_add_distrib, Finset.sum_ite_eq, Finset.sum_ite_eq, if_pos (Finset.mem_range.mpr h₀),
    if_pos (Finset.mem_range.mpr h₁)]

end At

end Cert.MoeRing

end
-- ==== Proof.Softmax.lean ====
/-
# Shares of two scores

Real arithmetic of the weights: sums and maxima of real numbers are real, and the two ways of weighting two choices, by their
exponentials among the two alone and by their probabilities among all, are the same.
-/
module

public import Idealize.ShloMosaic.Lib.Pointwise

@[expose] public section

noncomputable section

namespace Cert.MoeRing

open Idealize.ShloMosaic

/-- The part of its exponential in the sum of its own and another's. -/
def portion (a b : ℝ) : ℝ := Real.exp a / (Real.exp a + Real.exp b)

/-- A portion is not negative. -/
theorem portion_nonneg (a b : ℝ) : 0 ≤ portion a b := by unfold portion; positivity

/-- A sum of real numbers is real. -/
theorem sum_real {ι : Type} (S : Finset ι) (f : ι → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

/-- The largest of finitely many real numbers, at least one, is real. -/
theorem max_real {n : ℕ} (f : Fin (n + 1) → ℝ) : ∃ M : ℝ, Finset.univ.fold max (⊥ : EReal) (fun k => (f k : EReal)) = (M : EReal) := by
  classical
  have key : ∀ S : Finset (Fin (n + 1)), S.Nonempty → ∃ M : ℝ, S.fold max (⊥ : EReal) (fun k => (f k : EReal)) = (M : EReal) := fun S hS => by
    induction hS using Finset.Nonempty.cons_induction with
    | singleton a => exact ⟨f a, by simp⟩
    | cons a S ha hS ih =>
      obtain ⟨M, hM⟩ := ih
      exact ⟨max (f a) M, by rw [Finset.fold_cons, hM]; exact (EReal.coe_strictMono.monotone.map_max).symm⟩
  exact key _ Finset.univ_nonempty

/-- The quotient of two real numbers, the second not zero. -/
theorem div_real (a : ℝ) {b : ℝ} (hb : b ≠ 0) : Ideal.div (a : EReal) (b : EReal) = ((a / b : ℝ) : EReal) := by
  rw [Ideal.div_coe hb, ← EReal.coe_mul, mul_one_div]

/-- Two exponentials moved by the same amount, the first over their sum. -/
theorem portion_shift (a b M : ℝ) :
    Ideal.div (Ideal.exp ((a : EReal) - (M : EReal))) (Ideal.exp ((a : EReal) - (M : EReal)) + Ideal.exp ((b : EReal) - (M : EReal)))
      = (portion a b : EReal) := by
  rw [← EReal.coe_sub, ← EReal.coe_sub, Ideal.exp_coe, Ideal.exp_coe, ← EReal.coe_add,
    div_real _ (by positivity), portion]
  congr 1
  rw [Real.exp_sub, Real.exp_sub, ← add_div, div_div_div_cancel_right₀ (Real.exp_ne_zero M)]

/-- The same with the two sides of the sum exchanged. -/
theorem portion_shift' (a b M : ℝ) :
    Ideal.div (Ideal.exp ((a : EReal) - (M : EReal))) (Ideal.exp ((b : EReal) - (M : EReal)) + Ideal.exp ((a : EReal) - (M : EReal)))
      = (portion a b : EReal) := by rw [add_comm]; exact portion_shift a b M

/-- Two probabilities of one table, the first over their sum. -/
theorem portion_prob (a b M Z : ℝ) (hZ : Z ≠ 0) :
    Ideal.div ((Real.exp (a - M) / Z : ℝ) : EReal) (((Real.exp (a - M) / Z : ℝ) : EReal) + ((Real.exp (b - M) / Z : ℝ) : EReal))
      = (portion a b : EReal) := by
  have h : Real.exp (a - M) / Z + Real.exp (b - M) / Z ≠ 0 := by
    rw [← add_div]; exact div_ne_zero (by positivity) hZ
  rw [← EReal.coe_add, div_real _ h, portion]
  congr 1
  rw [← add_div, div_div_div_cancel_right₀ hZ, Real.exp_sub, Real.exp_sub, ← add_div, div_div_div_cancel_right₀ (Real.exp_ne_zero M)]

end Cert.MoeRing

end
-- ==== Proof.Weights.lean ====
/-
# The two weights of a token

What the operations before the kernel leave as the weights of the two experts that a token names: each its portion of the two
scores.
-/
module

public import proofs.«01_k».proof.Proof.Gen.KernelIdeal.Frame
public import proofs.«01_k».proof.Proof.Softmax
public import Idealize.ShloMosaic.Lib.StableHlo.ReadAt

@[expose] public section

noncomputable section

namespace Cert.MoeRing

open Cert.KernelIdeal Cert.KernelIdeal.Gen

open Idealize.ShloMosaic Idealize.ShloMosaic.TcCoe Idealize.SL.Sem

/-- The pattern that the largest score starts from is minus infinity. -/
theorem start_bot : Ideal.ofBits .f32 4286578688#32 = (⊥ : EReal) := by simp [Ideal.ofBits, Ideal.ieee]

/-- Of a row summed with all entries but one masked, that entry is left. -/
theorem masked_sum (v : BitVec 32) (i : Fin 64) (hv : v.toNat = i.val) (f : Fin 64 → EReal) :
    (∑ E : Fin 64, Scalar.select (IntOp.cmpi .eq v (BitVec.ofNat 32 E.val)) (f E) (id (constant (F := Ideal) S_ .f32 0#32) ix0) : EReal) = f i := by
  have hz : (constant (F := Ideal) S_ .f32 0#32) ix0 = (0 : EReal) := by pointwise
  rw [Finset.sum_eq_single i]
  · have : v = BitVec.ofNat 32 i.val := by rw [← hv]; simp
    rw [this]; simp [Scalar.select, IntOp.cmpi]
  · intro E _ hE
    have : v ≠ BitVec.ofNat 32 E.val := fun h => hE (Fin.ext (by
      have := E.isLt
      rw [← hv, h]; simp; omega))
    simp only [Scalar.select, IntOp.cmpi, beq_eq_false_iff_ne.mpr this]
    exact hz
  · exact fun h => absurd (Finset.mem_univ i) h

variable (m : (ℓ : Loc nD τ sig) → Buf (Elt Ideal) ℓ) (c : Dev nD)

/-- The tokens, the router's weights and the experts' numbers at device `c`. -/
abbrev xArg : FVec Ideal S2048x512 .bf16 := m (c, Proc.tc.devRef main_arg0)
abbrev rArg : FVec Ideal S512x64 .bf16 := m (c, Proc.tc.devRef main_arg1)
abbrev iArg : IVec S2048x2 32 := m (c, Proc.tc.devRef main_arg2)
/-- The weights as the kernel finds them. -/
abbrev wArg : FVec Ideal S2048x2 .f32 := V m c main_v27

variable {m c} {n : Fin 2048} {s : Fin 64 → ℝ} {i₀ i₁ : Fin 64}

/-- The first weight. -/
theorem weight_first (hs : ∀ e, ∑ d : Fin 512, xArg m c (ix2 n d) * rArg m c (ix2 d e) = (s e : EReal))
    (h₀ : (iArg m c (ix2 n (0 : Fin 2))).toNat = i₀.val) (h₁ : (iArg m c (ix2 n (1 : Fin 2))).toNat = i₁.val) :
    wArg m c (ix2 n (0 : Fin 2)) = (portion (s i₀) (s i₁) : EReal) := by
  obtain ⟨M, hM⟩ := max_real s
  show V m c main_v27 (ix2 n (0 : Fin 2)) = _
  unfold V
  after_reads_at
  after_reads_at
  simp only [hs, masked_sum _ _ h₀, masked_sum _ _ h₁, start_bot, hM, Finset.univ_unique, Finset.sum_singleton]
  exact portion_shift _ _ _

/-- The second weight. -/
theorem weight_second (hs : ∀ e, ∑ d : Fin 512, xArg m c (ix2 n d) * rArg m c (ix2 d e) = (s e : EReal))
    (h₀ : (iArg m c (ix2 n (0 : Fin 2))).toNat = i₀.val) (h₁ : (iArg m c (ix2 n (1 : Fin 2))).toNat = i₁.val) :
    wArg m c (ix2 n (1 : Fin 2)) = (portion (s i₁) (s i₀) : EReal) := by
  obtain ⟨M, hM⟩ := max_real s
  show V m c main_v27 (ix2 n (1 : Fin 2)) = _
  unfold V
  after_reads_at
  after_reads_at
  simp only [hs, masked_sum _ _ h₀, masked_sum _ _ h₁, start_bot, hM, Finset.univ_unique, Finset.sum_singleton]
  exact portion_shift' _ _ _

end Cert.MoeRing

end
-- ==== Proof.Whole.lean ====
/-
# Whole windows

Each window covers its whole array at the one point of the grid: what the kernel reads is the arrays, and what it stores is the
result's array.
-/
module

public import proofs.«01_k».proof.Proof.Region

@[expose] public section

noncomputable section

namespace Cert.MoeRing

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (c : Dev nD)

/-- The tokens the kernel reads are the device's argument. -/
theorem xIn_eq : xIn m c = m ((c : Thread nD τ).loc main_arg0) :=
  Eq.trans (funext fun j => congrArg (V m c main_arg0) (funext fun a => Fin.ext (Eq.trans (b := 0 * _ + 1 * (j a).val) rfl (by omega)))) (V_main_arg0 m c)

/-- The experts' numbers the kernel reads are the device's argument. -/
theorem iIn_eq : iIn m c = m ((c : Thread nD τ).loc main_arg2) :=
  Eq.trans (funext fun j => congrArg (V m c main_arg2) (funext fun a => Fin.ext (Eq.trans (b := 0 * _ + 1 * (j a).val) rfl (by omega)))) (V_main_arg2 m c)

/-- The experts the kernel reads are the device's argument. -/
theorem eIn_eq : eIn m c = m ((c : Thread nD τ).loc main_arg3) :=
  Eq.trans (funext fun j => congrArg (V m c main_arg3) (funext fun a => Fin.ext (Eq.trans (b := 0 * _ + 1 * (j a).val) rfl (by omega)))) (V_main_arg3 m c)

/-- The weights the kernel reads are what the operations before it leave. -/
theorem wIn_eq : wIn m c = V m c main_v27 :=
  funext fun j => congrArg (V m c main_v27) (funext fun a => Fin.ext (Eq.trans (b := 0 * _ + 1 * (j a).val) rfl (by omega)))

/-- The result's array holds what the kernel stores. -/
theorem arr_out : (dat m c).arrAt 4 cfg0.N = outOf m c := by
  have h : ((cfg0.win 4).blk t0_0).view.read (Elt F) ((dat m c).arrAt 4 cfg0.N) = outOf m c := by
    rw [show cfg0.N = t0_0.val + 1 from rfl, (dat m c).arrAt_succ 4 t0_0]
    rw [show (cfg0.win 4).flush t0_0 = true from flush0_4 t0_0, if_pos rfl]
    exact View.read_write_univ _ _
  exact Eq.trans (funext fun j => congrArg ((dat m c).arrAt 4 cfg0.N) (funext fun a => Fin.ext (Eq.trans (b := 0 * _ + 1 * (j a).val) (by omega) rfl))) h

end Cert.MoeRing

end
-- ==== Proof.Pick.lean ====
/-
# The two gathers of the reference at an index

Each reads a table at the entry its start indices name.
-/
module

public import proofs.«01_k».proof.Proof.Gen.ReferenceIdeal.Run
public import Idealize.ShloMosaic.Lib.Pointwise

@[expose] public section

noncomputable section

namespace Cert.MoeRing.Ref

open Cert.ReferenceIdeal Cert.ReferenceIdeal.Gen

open Idealize.ShloMosaic

/-- An entry of a table of probabilities, taken at the row and the column its start index names. -/
theorem gather_prob {α : Type} (P : S16384x64.Idx → α) (idx : IVec S16384x2 32) (n : Fin 16384) (e : Fin 64)
    (h0 : (idx (ix2 n (0 : Fin 2))).toInt.toNat = n.val) (h1 : (idx (ix2 n (1 : Fin 2))).toInt.toNat = e.val) :
    Host.gather gather_S16384x64_S16384x2_S16384_n_01_n_n_01_1_11 P idx (ix1 n) = P (ix2 n e) := by
  unfold Host.gather
  refine congrArg P (funext fun a => Fin.ext ?_)
  show GatherDims.start _ (ix1 n) idx a + GatherDims.batchCoord _ (ix1 n) a + GatherDims.offCoord _ (ix1 n) a = _
  have hn := n.isLt
  have he := e.isLt
  rw [GatherDims.batchCoord_eq_zero _ _ _ (by exact List.not_mem_nil),
    GatherDims.offCoord_eq_zero _ _ _ (fun h => ((GatherDims.mem_sKept _ _).mp h).1 (by revert a; decide))]
  unfold GatherDims.start
  rw [dif_pos (by revert a; decide)]
  match a with
  | ⟨0, _⟩ =>
    rw [show GatherDims.siIdx gather_S16384x64_S16384x2_S16384_n_01_n_n_01_1_11 (ix1 n) ⟨_, _⟩ = ix2 n (0 : Fin 2) from by
      funext b; match b with | ⟨0, _⟩ => rfl | ⟨1, _⟩ => rfl]
    show min (idx _).toInt.toNat (16384 - 1) + 0 + 0 = n.val
    omega
  | ⟨1, _⟩ =>
    rw [show GatherDims.siIdx gather_S16384x64_S16384x2_S16384_n_01_n_n_01_1_11 (ix1 n) ⟨_, _⟩ = ix2 n (1 : Fin 2) from by
      funext b; match b with | ⟨0, _⟩ => rfl | ⟨1, _⟩ => rfl]
    show min (idx _).toInt.toNat (64 - 1) + 0 + 0 = e.val
    omega

/-- An entry of the weights gathered for each token is the entry of the weights of the expert its start index names. -/
theorem gather_expert {α : Type} (W : S64x512x1024.Idx → α) (idx : IVec S16384x1 32) (n : Fin 16384) (e : Fin 64) (d : Fin 512) (h : Fin 1024)
    (h0 : (idx (ix2 n (0 : Fin 1))).toInt.toNat = e.val) :
    Host.gather gather_S64x512x1024_S16384x1_S16384x512x1024_12_0_n_n_0_1_15121024 W idx (ix3 n d h) = W (ix3 e d h) := by
  unfold Host.gather
  refine congrArg W (funext fun a => Fin.ext ?_)
  show GatherDims.start _ (ix3 n d h) idx a + GatherDims.batchCoord _ (ix3 n d h) a + GatherDims.offCoord _ (ix3 n d h) a = _
  have he := e.isLt
  rw [GatherDims.batchCoord_eq_zero _ _ _ (by exact List.not_mem_nil)]
  match a with
  | ⟨0, _⟩ =>
    rw [GatherDims.offCoord_eq_zero _ _ _ (fun h => ((GatherDims.mem_sKept _ _).mp h).1 (by decide +revert))]
    unfold GatherDims.start
    rw [dif_pos (by decide +revert)]
    rw [show GatherDims.siIdx gather_S64x512x1024_S16384x1_S16384x512x1024_12_0_n_n_0_1_15121024 (ix3 n d h) ⟨_, _⟩ = ix2 n (0 : Fin 1) from by
      funext b; match b with | ⟨0, _⟩ => rfl | ⟨1, _⟩ => rfl]
    show min (idx _).toInt.toNat (64 - 1) + 0 + 0 = e.val
    omega
  | ⟨1, _⟩ =>
    unfold GatherDims.start
    rw [dif_neg (by decide +revert)]
    show 0 + 0 + GatherDims.offCoord _ _ _ = d.val
    rw [Nat.zero_add]; rfl
  | ⟨2, _⟩ =>
    unfold GatherDims.start
    rw [dif_neg (by decide +revert)]
    show 0 + 0 + GatherDims.offCoord _ _ _ = h.val
    rw [Nat.zero_add]; rfl

end Cert.MoeRing.Ref

end
-- ==== Proof.RefValue.lean ====
/-
# The reference at an index

Entry `(n, h)` of the reference's result: the two experts that token `n` names, each applied to the token and weighted by its
portion of the two scores.
-/
module

public import proofs.«01_k».proof.Proof.Pick
public import proofs.«01_k».proof.Proof.Softmax

@[expose] public section

noncomputable section

namespace Cert.MoeRing.Ref

open Cert.ReferenceIdeal Cert.ReferenceIdeal.Gen Cert.ReferenceIdeal.Value

open Idealize.ShloMosaic Idealize.ShloMosaic.TcCoe Idealize.SL.Sem

/-- The pattern that a largest score starts from is minus infinity. -/
theorem ninf : Ideal.ofBits .f32 4286578688#32 = (⊥ : EReal) := by simp [Ideal.ofBits, Ideal.ieee]

/-- The scores of all experts at all tokens. -/
def scores (x : Vec Ideal S16384x512 .bf16) (r : Vec Ideal S512x64 .bf16) : FVec Ideal S16384x64 .f32 :=
  Host.dotGeneral dot_S16384x512_S512x64_S16384x64_1_0_0_1_n_n none (extf .f32 x bitsLt_bf16_f32) (extf .f32 r bitsLt_bf16_f32)

/-- The exponentials of the scores less each token's largest. -/
def exps (x : Vec Ideal S16384x512 .bf16) (r : Vec Ideal S512x64 .bf16) : FVec Ideal S16384x64 .f32 :=
  Host.exp (subf (scores x r) (broadcastInDim S16384x64 ![0, 1] bcast_S16384x1_S16384x64_0_1
    (broadcastInDim S16384x1 ![0] bcast_S16384_S16384x1_0
      (Host.reduce FloatOps.maximumf (scores x r) (constant S_ .f32 0xFF800000#32) reducesTo_S16384x64_S16384_d1 h_S_))))

/-- The probabilities of all experts at all tokens. -/
def probs (x : Vec Ideal S16384x512 .bf16) (r : Vec Ideal S512x64 .bf16) : FVec Ideal S16384x64 .f32 :=
  Host.divf (exps x r) (broadcastInDim S16384x64 ![0, 1] bcast_S16384x1_S16384x64_0_1
    (broadcastInDim S16384x1 ![0] bcast_S16384_S16384x1_0
      (Host.reduceAdd (exps x r) (constant S_ .f32 0x00000000#32) reducesTo_S16384x64_S16384_d1 h_S_)))

/-- The column of the tokens' choices at offset `o`. -/
def choice (o : Fin 2 → ℕ) (ho : S16384x2.Slices o S16384x1) (idx : IVec S16384x2 32) : IVec S16384x1 32 :=
  broadcastInDim S16384x1 ![0] bcast_S16384_S16384x1_0 (shapeCast S16384 (extractStridedSlice S16384x1 o idx ho) shapeCasts_S16384x1_S16384)

/-- The column of the tokens' numbers beside a column of choices. -/
def starts (y : IVec S16384x1 32) : IVec S16384x2 32 :=
  concatenate S16384x2 1 [⟨S16384x1, broadcastInDim S16384x1 ![0] bcast_S16384_S16384x1_0 (iotaInDim S16384 32 0)⟩, ⟨S16384x1, y⟩]
    concatenates_S16384x1_S16384x1_S16384x2_d1

/-- The probabilities of one column of choices. -/
def picked (p : FVec Ideal S16384x64 .f32) (y : IVec S16384x1 32) : FVec Ideal S16384 .f32 :=
  Host.gather gather_S16384x64_S16384x2_S16384_n_01_n_n_01_1_11 p (starts y)

/-- The outputs of the experts of one column of choices. -/
def applied (x : Vec Ideal S16384x512 .bf16) (w : Vec Ideal S64x512x1024 .bf16) (y : IVec S16384x1 32) : FVec Ideal S16384x1024 .f32 :=
  Host.dotGeneral dot_S16384x512_S16384x512x1024_S16384x1024_1_1_n_2_0_0 none (extf .f32 x bitsLt_bf16_f32)
    (Host.gather gather_S64x512x1024_S16384x1_S16384x512x1024_12_0_n_n_0_1_15121024 (extf .f32 w bitsLt_bf16_f32) y)

/-- A column of weights over the sum of two columns, laid over the result's columns. -/
def weight (g s : FVec Ideal S16384 .f32) : FVec Ideal S16384x1024 .f32 :=
  broadcastInDim S16384x1024 ![0, 1] bcast_S16384x1_S16384x1024_0_1 (broadcastInDim S16384x1 ![0] bcast_S16384_S16384x1_0 (Host.divf g s))

variable (x : Vec Ideal S16384x512 .bf16) (r : Vec Ideal S512x64 .bf16) (idx : IVec S16384x2 32) (w : Vec Ideal S64x512x1024 .bf16)

/-- The result the reference computes, in those words. -/
def mixed : FVec Ideal S16384x1024 .f32 :=
  addf
    (mulf (weight (picked (probs x r) (choice ![0, 0] slices_S16384x2_S16384x1_0_0 idx))
        (addf (picked (probs x r) (choice ![0, 0] slices_S16384x2_S16384x1_0_0 idx)) (picked (probs x r) (choice ![0, 1] slices_S16384x2_S16384x1_0_1 idx))))
      (applied x w (choice ![0, 0] slices_S16384x2_S16384x1_0_0 idx)))
    (mulf (weight (picked (probs x r) (choice ![0, 1] slices_S16384x2_S16384x1_0_1 idx))
        (addf (picked (probs x r) (choice ![0, 0] slices_S16384x2_S16384x1_0_0 idx)) (picked (probs x r) (choice ![0, 1] slices_S16384x2_S16384x1_0_1 idx))))
      (applied x w (choice ![0, 1] slices_S16384x2_S16384x1_0_1 idx)))

/-- The reference's program computes that result. -/
theorem result_eq (m : (ℓ : Loc nD τ sig) → Buf (Elt Ideal) ℓ) (c : Dev nD) :
    res_main_v42 m c = mixed (m ((c.tc : Thread nD τ).loc main_arg0)) (m ((c.tc : Thread nD τ).loc main_arg1))
      (m ((c.tc : Thread nD τ).loc main_arg2)) (m ((c.tc : Thread nD τ).loc main_arg3)) := rfl

section Row

variable {x r idx w}
variable {n : Fin 16384} {s : Fin 64 → ℝ} {i₀ i₁ : Fin 64}

/-- A score at an index. -/
theorem scores_at (n : Fin 16384) (e : Fin 64) : scores x r (ix2 n e) = ∑ d : Fin 512, x (ix2 n d) * r (ix2 d e) := by
  unfold scores
  pointwise

/-- A token whose scores are real has real probabilities. -/
theorem probs_at (hs : ∀ e, ∑ d : Fin 512, x (ix2 n d) * r (ix2 d e) = (s e : EReal)) :
    ∃ M Z : ℝ, Z ≠ 0 ∧ ∀ e, probs x r (ix2 n e) = ((Real.exp (s e - M) / Z : ℝ) : EReal) := by
  obtain ⟨M, hM⟩ := max_real s
  have he : ∀ e, exps x r (ix2 n e) = (Real.exp (s e - M) : EReal) := fun e => by
    unfold exps
    pointwise [scores_at, hs]
    rw [ninf, hM, ← EReal.coe_sub, Ideal.exp_coe]
  refine ⟨M, ∑ e, Real.exp (s e - M), ne_of_gt (Finset.sum_pos (fun k _ => Real.exp_pos _) Finset.univ_nonempty), fun e => ?_⟩
  unfold probs
  pointwise [he]
  rw [sum_real]
  exact div_real _ (ne_of_gt (Finset.sum_pos (fun k _ => Real.exp_pos _) Finset.univ_nonempty))

/-- A choice read back. -/
theorem choice_at (o : Fin 2 → ℕ) (k : Fin 2) (ho : S16384x2.Slices o S16384x1) (hk : o = ![0, k.val]) :
    choice o ho idx (ix2 n (0 : Fin 1)) = idx (ix2 n k) := by
  subst hk
  unfold choice
  pointwise

/-- The probability of a choice. -/
theorem picked_at (p : FVec Ideal S16384x64 .f32) (y : IVec S16384x1 32) (e : Fin 64) (h : (y (ix2 n (0 : Fin 1))).toNat = e.val) :
    picked p y (ix1 n) = p (ix2 n e) := by
  have hn := n.isLt
  have he := e.isLt
  refine gather_prob p _ n e ?_ ?_
  · unfold starts
    pointwise
    rw [BitVec.toInt_eq_toNat_of_lt (by simp; omega)]
    simp; omega
  · unfold starts
    pointwise
    rw [BitVec.toInt_eq_toNat_of_lt (by omega)]
    simp [h]

/-- The output of the expert of a choice. -/
theorem applied_at (y : IVec S16384x1 32) (e : Fin 64) (h : Fin 1024) (hy : (y (ix2 n (0 : Fin 1))).toNat = e.val) :
    applied x w y (ix2 n h) = ∑ d : Fin 512, x (ix2 n d) * w (ix3 e d h) := by
  have he := e.isLt
  unfold applied
  pointwise
  refine Finset.sum_congr rfl fun d _ => ?_
  rw [gather_expert _ _ n e d h (by rw [BitVec.toInt_eq_toNat_of_lt (by omega)]; simp [hy])]
  rfl

/-- The reference's result at an index. -/
theorem mixed_at (hs : ∀ e, ∑ d : Fin 512, x (ix2 n d) * r (ix2 d e) = (s e : EReal)) (h₀ : (idx (ix2 n (0 : Fin 2))).toNat = i₀.val)
    (h₁ : (idx (ix2 n (1 : Fin 2))).toNat = i₁.val) (h : Fin 1024) :
    mixed x r idx w (ix2 n h) = (portion (s i₀) (s i₁) : EReal) * ∑ d : Fin 512, x (ix2 n d) * w (ix3 i₀ d h)
      + (portion (s i₁) (s i₀) : EReal) * ∑ d : Fin 512, x (ix2 n d) * w (ix3 i₁ d h) := by
  obtain ⟨M, Z, hZ, hp⟩ := probs_at hs
  have c₀ := (congrArg BitVec.toNat (choice_at (n := n) (idx := idx) ![0, 0] 0 slices_S16384x2_S16384x1_0_0 rfl)).trans h₀
  have c₁ := (congrArg BitVec.toNat (choice_at (n := n) (idx := idx) ![0, 1] 1 slices_S16384x2_S16384x1_0_1 rfl)).trans h₁
  unfold mixed weight
  pointwise [picked_at _ _ _ c₀, picked_at _ _ _ c₁, applied_at _ _ _ c₀, applied_at _ _ _ c₁, hp]
  rw [portion_prob _ _ _ _ hZ, add_comm (((Real.exp (s i₀ - M) / Z : ℝ) : EReal)), portion_prob _ _ _ _ hZ]

end Row

end Cert.MoeRing.Ref

end
-- ==== Proof.Valid.lean ====
/-
# What the precondition says

The precondition of the value claim, read entry by entry: every expert index is a number below 64, and every entry of the
tokens and of the router's weights is a real number.
-/
module

public import proofs.«01_k».proof.Defs
public import Idealize.ShloMosaic.Lib.Pointwise
public import Idealize.ShloMosaic.Lib.ReduceAll
public import Idealize.ShloMosaic.Lib.WordCmp

@[expose] public section

noncomputable section

namespace Cert.MoeRing

open Idealize.ShloMosaic

/-- The shape relations the precondition's operations take, of the kernel's blocks. -/
instance valid_kernel_facts : Cert.Pre_valid_KernelIdeal.Facts where
  bcast_S_S2048x2 := by decide
  reducesTo_S2048x2_S_d0_1 := by decide
  h_S_ := by decide
  bcast_S_S2048x512 := by decide
  reducesTo_S2048x512_S_d0_1 := by decide
  bcast_S_S512x64 := by decide
  reducesTo_S512x64_S_d0_1 := by decide

/-- The shape relations the precondition's operations take, of the reference's arrays. -/
instance valid_reference_facts : Cert.Pre_valid_ReferenceIdeal.Facts := by
  constructor <;> decide

/-- An extended real whose absolute value is below infinity is a real number. -/
theorem real_of_abs_lt {x : EReal} (h : max x (-x) < ⊤) : ∃ r : ℝ, x = (r : EReal) := by
  induction x with
  | bot => simp at h
  | coe r => exact ⟨r, rfl⟩
  | top => simp at h

/-- A bfloat16 entry that the precondition's comparison passes is a real number. -/
theorem real_of_bit {x : Ideal .bf16} (h : FloatOps.cmpf .olt (FloatOps.hostAbsf x) (FloatOps.ofBits .bf16 0x7F80#16) = 1#1) :
    ∃ r : ℝ, x = (r : EReal) := by
  refine real_of_abs_lt ?_
  have h2 : (FloatOps.ofBits .bf16 0x7F80#16 : Ideal .bf16) = (⊤ : EReal) := by
    show Ideal.ofBits .bf16 0x7F80#16 = _
    simp [Ideal.ofBits, Ideal.ieee]
  rw [h2, Ideal.cmpf_def, Ideal.hostAbsf_def, Ideal.absf_def] at h
  by_contra hc
  simp [Ideal.cmp, hc] at h

/-- What the precondition says of one device's blocks. -/
theorem valid_read (x : FVec Ideal ⟨2, ![2048, 512]⟩ .bf16) (r : FVec Ideal ⟨2, ![512, 64]⟩ .bf16) (idx : IVec ⟨2, ![2048, 2]⟩ 32)
    (e : FVec Ideal ⟨3, ![8, 512, 1024]⟩ .bf16) (h : Cert.Pre_valid_KernelIdeal.fn (F := Ideal) x r idx e = fun _ => 1#1) :
    (∀ i, (idx i).toNat < 64) ∧ (∀ i, ∃ a : ℝ, x i = (a : EReal)) ∧ ∀ i, ∃ a : ℝ, r i = (a : EReal) := by
  have hj := congrFun h (fun a => a.elim0)
  unfold Cert.Pre_valid_KernelIdeal.fn at hj
  haveI : Subsingleton Cert.Pre_valid_KernelIdeal.S_.Idx := ⟨fun a b => funext fun k => k.elim0⟩
  obtain ⟨hab, hc⟩ := IntOp.andi_eq_one.mp hj
  obtain ⟨ha, hb⟩ := IntOp.andi_eq_one.mp hab
  refine ⟨fun i => ?_, fun i => ?_, fun i => ?_⟩
  · have := Host.reduce_andi_all _ _ _ _ _ ha i
    have h' : IntOp.andi (IntOp.cmpi .sge (idx i) 0#32) (IntOp.cmpi .slt (idx i) (BitVec.ofNat 32 64)) = 1#1 := this
    rw [WordCmp.andi_sge_zero_slt_ofNat (by norm_num)] at h'
    by_contra hn
    simp [hn] at h'
  · exact real_of_bit (Host.reduce_andi_all _ _ _ _ _ hb i)
  · exact real_of_bit (Host.reduce_andi_all _ _ _ _ _ hc i)

end Cert.MoeRing

end
-- ==== Proof.Equation.lean ====
/-
# The kernel's result is the reference's

At devices that hold the blocks of whole arrays, under the precondition, what the kernel stores at each device is that device's
block of what the reference computes of the arrays.
-/
module

public import proofs.«01_k».proof.Proof.Sum
public import proofs.«01_k».proof.Proof.Weights
public import proofs.«01_k».proof.Proof.Whole
public import proofs.«01_k».proof.Proof.RefValue
public import proofs.«01_k».proof.Proof.Valid
public import Idealize.ShloMosaic.Lib.Layout

@[expose] public section

noncomputable section

namespace Cert.MoeRing

open Cert.KernelIdeal Cert.KernelIdeal.Gen

open Idealize.ShloMosaic Idealize.ShloMosaic.TcCoe Idealize.SL.Sem

/-- Where entry `(n, h)` of device `c`'s block of rows stands in the whole array. -/
theorem rows_idx {a b : ℕ} (t : Layout.Tiles ⟨2, ![a, b]⟩ ⟨2, ![8 * a, b]⟩ 0 8) (c : Fin 8) (n : Fin a) (h : Fin b) (p : Fin (8 * a))
    (hp : p.val = c.val * a + n.val) : t.idx c (ix2 n h) = ix2 p h := by
  funext k
  match k with
  | ⟨0, _⟩ => exact Fin.ext hp.symm
  | ⟨1, _⟩ => rfl

variable (m : (ℓ : Loc nD τ sig) → Buf (Elt Ideal) ℓ)
variable (X : Vec Ideal ReferenceIdeal.S16384x512 .bf16) (R : Vec Ideal ReferenceIdeal.S512x64 .bf16) (I : IVec ReferenceIdeal.S16384x2 32)
  (W : Vec Ideal ReferenceIdeal.S64x512x1024 .bf16)

/-- The weights of expert number `E` of the whole array. -/
def expertOf (E : ℕ) (d : Fin 512) (h : Fin 1024) : EReal := W (ix3 ⟨E % 64, Nat.mod_lt _ (by decide)⟩ d h)

/-- What the kernel stores, of the arguments and the weights. -/
theorem outOf_eq (c : Dev nD) : outOf m c = outAfter (xArg m c) (iArg m c) (wArg m c) (eIn m) c 8 := by
  unfold outOf
  rw [show xIn m c = xArg m c from xIn_eq m c, show iIn m c = iArg m c from iIn_eq m c, show wIn m c = wArg m c from wIn_eq m c]

/-- The equation. -/
theorem out_eq (hv : Cert.Pre_KernelIdeal_valid_KernelIdeal m)
    (hx : ∀ c : Dev nD, m ((c.tc : Thread nD τ).loc main_arg0) = Layout.block ⟨2, ![2048, 512]⟩ ⟨2, ![16384, 512]⟩ 0 8 c X)
    (hr : ∀ c : Dev nD, m ((c.tc : Thread nD τ).loc main_arg1) = R)
    (hi : ∀ c : Dev nD, m ((c.tc : Thread nD τ).loc main_arg2) = Layout.block ⟨2, ![2048, 2]⟩ ⟨2, ![16384, 2]⟩ 0 8 c I)
    (he : ∀ c : Dev nD, m ((c.tc : Thread nD τ).loc main_arg3) = Layout.block ⟨3, ![8, 512, 1024]⟩ ⟨3, ![64, 512, 1024]⟩ 0 8 c W)
    (c : Dev nD) :
    outOf m c = Layout.block ⟨2, ![2048, 1024]⟩ ⟨2, ![16384, 1024]⟩ 0 8 c (Ref.mixed X R I W) := by
  funext j
  obtain ⟨n, h, rfl⟩ : ∃ (n : Fin 2048) (h : Fin 1024), j = ix2 n h := ⟨j 0, j 1, eq_ix2 j⟩
  have hc : c.val < 8 := c.isLt
  have hn := n.isLt
  -- the row of the whole arrays that row `n` is
  let p : Fin 16384 := ⟨c.val * 2048 + n.val, by omega⟩
  obtain ⟨vi, vx, vr⟩ := valid_read _ _ _ _ (hv c)
  have ex : ∀ d : Fin 512, xArg m c (ix2 n d) = X (ix2 p d) := fun d =>
    (congrFun (hx c) (ix2 n d)).trans (congrArg X (rows_idx (by decide) c n d p rfl))
  have ei : ∀ k : Fin 2, iArg m c (ix2 n k) = I (ix2 p k) := fun k =>
    (congrFun (hi c) (ix2 n k)).trans (congrArg I (rows_idx (by decide) c n k p rfl))
  have ee : ∀ (s : Dev nD) (e : Fin 8) (d : Fin 512) (h : Fin 1024), eIn m s (ix3 e d h) = expertOf W (8 * s.val + e.val) d h := fun s e d h => by
    have hs : s.val < 8 := s.isLt
    have := e.isLt
    rw [eIn_eq]
    refine (congrFun (he s) (ix3 e d h)).trans (congrArg W (funext fun k => ?_))
    match k with
    | ⟨0, _⟩ => exact Fin.ext (show s.val * 8 + e.val = (8 * s.val + e.val) % 64 by omega)
    | ⟨1, _⟩ => rfl
    | ⟨2, _⟩ => rfl
  -- the scores of the row are real
  choose a ha using vx
  choose b hb using vr
  have hs : ∀ e : Fin 64, ∑ d : Fin 512, xArg m c (ix2 n d) * rArg m c (ix2 d e) = ((∑ d : Fin 512, a (ix2 n d) * b (ix2 d e) : ℝ) : EReal) := fun e => by
    rw [← sum_real]
    refine Finset.sum_congr rfl fun d _ => ?_
    rw [EReal.coe_mul, ← ha, ← hb]
  have hs' : ∀ e : Fin 64, ∑ d : Fin 512, X (ix2 p d) * R (ix2 d e) = ((∑ d : Fin 512, a (ix2 n d) * b (ix2 d e) : ℝ) : EReal) := fun e => by
    rw [← hs e]
    refine Finset.sum_congr rfl fun d _ => ?_
    rw [ex d, ← hr c]
  have l₀ : (iArg m c (ix2 n (0 : Fin 2))).toNat < 64 := vi _
  have l₁ : (iArg m c (ix2 n (1 : Fin 2))).toNat < 64 := vi _
  have w₀ := weight_first (m := m) (c := c) (i₀ := ⟨_, l₀⟩) (i₁ := ⟨_, l₁⟩) hs rfl rfl
  have w₁ := weight_second (m := m) (c := c) (i₀ := ⟨_, l₀⟩) (i₁ := ⟨_, l₁⟩) hs rfl rfl
  rw [outOf_eq, out_at (xArg m c) (iArg m c) (wArg m c) (W := expertOf W) (ew := eIn m) ee c n h]
  refine (parts_sum (xArg m c) (iArg m c) (wArg m c) (W := expertOf W) n h l₀ l₁ (by rw [w₀]; exact EReal.coe_nonneg.mpr (portion_nonneg _ _))
    (by rw [w₁]; exact EReal.coe_nonneg.mpr (portion_nonneg _ _))).trans ?_
  rw [Layout.block_apply, rows_idx (p := p) (hp := rfl)]
  refine Eq.trans ?_ (Ref.mixed_at (n := p) (i₀ := ⟨_, l₀⟩) (i₁ := ⟨_, l₁⟩) hs' (by rw [← ei]) (by rw [← ei]) h).symm
  rw [w₀, w₁]
  have hE : ∀ (E : ℕ) (l : E < 64), ∑ d : Fin 512, xArg m c (ix2 n d) * expertOf W E d h = ∑ d : Fin 512, X (ix2 p d) * W (ix3 ⟨E, l⟩ d h) := fun E l =>
    Finset.sum_congr rfl fun d _ => by
      rw [ex d]; unfold expertOf
      rw [show (⟨E % 64, Nat.mod_lt _ (by decide)⟩ : Fin 64) = ⟨E, l⟩ from Fin.ext (Nat.mod_eq_of_lt l)]
  rw [hE _ l₀, hE _ l₁]

end Cert.MoeRing

end
-- ==== Proof.lean ====
/- The claims of this certificate, assembled: the kernel's run at both kinds of floats, and the reference's run. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Lib.Quiescent

@[expose] public section

noncomputable section

namespace Cert.Proof

open Idealize.ShloMosaic Idealize.SL.Sem

/-- The kernel at any floats ends, quiescent, with its arguments unchanged. -/
theorem frame_any {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0) :=
  (θ_run KernelIdeal.defs _ _).mono
    (fun _ h => ⟨fun c => ⟨(h.1 c).1, (h.1 c).2.1, (h.1 c).2.2.1, (h.1 c).2.2.2.1⟩, h.2⟩) (MoeRing.run_main m ρ)

/-- The kernel at the ideal floats ends, quiescent, with its arguments unchanged. -/
theorem frame_ideal : Cert.quiescent_KernelIdeal := fun m ρ _ => frame_any m ρ

/-- The two printed programs have one body table. -/
theorem defs_eq : Kernel.defs₀ (F := Bits) = KernelIdeal.defs₀ (F := Bits) := by
  unfold Kernel.defs₀ KernelIdeal.defs₀
  refine congrArg (Defs.onTc (nD := KernelIdeal.nD) (τ := KernelIdeal.τ) (sig := KernelIdeal.sig)) (funext fun l => funext fun a => ?_)
  match l, a with
  | ⟨0, _⟩, (t, s) => rfl
  | ⟨_ + 1, h⟩, _ => exact absurd h (Nat.not_lt.2 (Nat.le_add_left _ _))

/-- The kernel at the machine's floats ends, quiescent, with its arguments unchanged: the same text, read at bits. -/
theorem frame_kernel : Cert.quiescent_Kernel := by
  intro m ρ _
  have h := frame_any (F := Bits) m ρ
  unfold KernelIdeal.defs at h
  rw [← defs_eq] at h
  exact h

/-- The reference ends with its arguments unchanged; it has no semaphore, so no counter is left raised. -/
theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run (F := Ideal) m ρ)

/-- The kernel's result at each device is that device's block of the reference's. -/
theorem equal : Cert.algebraic_KernelIdeal_ReferenceIdeal_pre_valid_KernelIdeal := fun m g m' g' hv hm =>
  ⟨Cert.ReferenceIdeal.Value.res_out0 (F := Ideal) m' 0,
    (θ_run KernelIdeal.defs _ _).mono
      (fun _ h c => ⟨(h.1 c).2.2.2.2.trans ((MoeRing.arr_out m c).trans (MoeRing.out_eq m _ _ _ _ hv (fun d => (hm d).1) (fun d => (hm d).2.1)
          (fun d => (hm d).2.2.1) (fun d => (hm d).2.2.2) c)),
        (h.1 c).1, (h.1 c).2.1, (h.1 c).2.2.1, (h.1 c).2.2.2.1⟩) (MoeRing.run_main m g),
    (θ_run Cert.ReferenceIdeal.defs _ _).mono (fun _ h => h 0) (Cert.ReferenceIdeal.Value.run (F := Ideal) m' g')⟩

/-- All that is claimed. -/
theorem claim : Cert.Claim :=
  ⟨Cert.Kernel.Gen.facts, Cert.KernelIdeal.Gen.facts, Cert.ReferenceIdeal.Gen.facts, MoeRing.valid_kernel_facts, MoeRing.valid_reference_facts,
    frame_kernel, frame_ideal, fun m g _ => frame_ideal m g trivial, frame_reference, fun m g _ => frame_reference m g trivial, trivial, equal⟩

end Cert.Proof

end
